-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_full_graph [hPre_full_graph : Cert.Pre_full_graph.Facts] (m : (ℓ : Loc Cert.KernelIdeal.nD Cert.KernelIdeal.τ Cert.KernelIdeal.sig) → Buf (Elt Ideal) ℓ) : Prop :=
  ∀ c : Dev Cert.KernelIdeal.nD,
    (Cert.Pre_full_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_full_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_full_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_full_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_full_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_full_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_full_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_full_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_full_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_full_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_full_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_full_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_full_graph [hPre_full_graph : Cert.Pre_full_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_full_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_full_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_full_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_full_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_full_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_full_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_full_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_full_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_full_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_full_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_full_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_full_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_full_graph [hKernelIdeal : Cert.KernelIdeal.Facts] [hPre_full_graph : Cert.Pre_full_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_full_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_full_graph [hReferenceIdeal : Cert.ReferenceIdeal.Facts] [hPre_full_graph : Cert.Pre_full_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_full_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_offdiag" .f32 0x3C820821#32 ((1 / 63 : ℝ) : EReal)

def algebraic_KernelIdeal_ReferenceIdeal_pre_full_graph [hKernelIdeal : Cert.KernelIdeal.Facts] [hReferenceIdeal : Cert.ReferenceIdeal.Facts] [hPre_full_graph : Cert.Pre_full_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_full_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_full_graph : Cert.Pre_full_graph.Facts),
    quiescent_Kernel (hKernel := hKernel)
    ∧ quiescent_KernelIdeal (hKernelIdeal := hKernelIdeal)
    ∧ quiescent_KernelIdeal_pre_full_graph (hKernelIdeal := hKernelIdeal) (hPre_full_graph := hPre_full_graph)
    ∧ quiescent_ReferenceIdeal (hReferenceIdeal := hReferenceIdeal)
    ∧ quiescent_ReferenceIdeal_pre_full_graph (hReferenceIdeal := hReferenceIdeal) (hPre_full_graph := hPre_full_graph)
    ∧ preserves_Kernel_KernelIdeal
    ∧ algebraic_KernelIdeal_ReferenceIdeal_pre_full_graph (hKernelIdeal := hKernelIdeal) (hReferenceIdeal := hReferenceIdeal) (hPre_full_graph := hPre_full_graph)
-- ==== Pre_full_graph.lean ====
abbrev S128x64x128 : Shape := ⟨3, ![128, 64, 128]⟩
abbrev S128x128 : Shape := ⟨2, ![128, 128]⟩
abbrev S128 : Shape := ⟨1, ![128]⟩
abbrev S2x4096 : Shape := ⟨2, ![2, 4096]⟩
abbrev S4096 : Shape := ⟨1, ![4096]⟩
abbrev S64x64 : Shape := ⟨2, ![64, 64]⟩
abbrev S1 : Shape := ⟨1, ![1]⟩
abbrev S_ : Shape := ⟨0, ![]⟩
abbrev S1x4096 : Shape := ⟨2, ![1, 4096]⟩

class Facts : Prop where
  shapeCasts_S4096_S64x64 : S4096.ShapeCasts S64x64
  slices_S4096_S1_0 : S4096.Slices ![0] S1
  shapeCasts_S1_S_ : S1.ShapeCasts S_
  bcast_S_S64x64 : S_.BroadcastsInDim S64x64 (![] : Fin 0 → Fin S64x64.rank)
  slices_S4096_S1_1 : S4096.Slices ![1] S1
  bcast_S_S128x64x128 : S_.BroadcastsInDim S128x64x128 (![] : Fin 0 → Fin S128x64x128.rank)
  bcast_S_S128x128 : S_.BroadcastsInDim S128x128 (![] : Fin 0 → Fin S128x128.rank)
  bcast_S_S128 : S_.BroadcastsInDim S128 (![] : Fin 0 → Fin S128.rank)
  slices_S2x4096_S1x4096_0_0 : S2x4096.Slices ![0, 0] S1x4096
  shapeCasts_S1x4096_S4096 : S1x4096.ShapeCasts S4096
  slices_S2x4096_S1x4096_1_0 : S2x4096.Slices ![1, 0] S1x4096

variable [Facts]

def fn_part3 {F : FTy → Type} [FloatOps F] (main_arg10 : IVec S2x4096 32) (main_v0 : IVec S64x64 32) (main_v1 : IVec S64x64 32) (main_v2 : FVec F S64x64 .f32) (main_v5 : FVec F S64x64 .f32) (main_v8 : FVec F S64x64 .f32) (main_v13 : IVec S128x64x128 1) (main_v18 : IVec S128x128 1) (main_v23 : IVec S128x128 1) (main_v28 : IVec S128x128 1) (main_v33 : IVec S128 1) (main_v38 : IVec S128 1) (main_v43 : IVec S128 1) (main_v48 : IVec S128 1) (main_v53 : IVec S128 1) : IVec S128x64x128 1 × IVec S128x128 1 × IVec S128x128 1 × IVec S128x128 1 × IVec S128 1 × IVec S128 1 × IVec S128 1 × IVec S128 1 × IVec S128 1 × IVec S64x64 1 × IVec S64x64 1 × IVec S64x64 1 :=
  let main_v54 : IVec S1x4096 32 := (extractStridedSlice S1x4096 ![0, 0] · slices_S2x4096_S1x4096_0_0) main_arg10
  let main_v55 : IVec S4096 32 := shapeCast S4096 main_v54 shapeCasts_S1x4096_S4096
  let main_v56 : IVec S64x64 32 := shapeCast S64x64 main_v55 shapeCasts_S4096_S64x64
  let main_v57 : IVec S64x64 1 := cmpi .eq main_v56 main_v0
  let main_v58 : IVec S1x4096 32 := (extractStridedSlice S1x4096 ![1, 0] · slices_S2x4096_S1x4096_1_0) main_arg10
  let main_v59 : IVec S4096 32 := shapeCast S4096 main_v58 shapeCasts_S1x4096_S4096
  let main_v60 : IVec S64x64 32 := shapeCast S64x64 main_v59 shapeCasts_S4096_S64x64
  let main_v61 : IVec S64x64 1 := cmpi .eq main_v60 main_v1
  let main_v62 : IVec S64x64 1 := cmpi .eq main_v0 main_v1
  let main_v63 : FVec F S64x64 .f32 := select main_v62 main_v5 main_v8
  let main_v64 : IVec S64x64 1 := cmpf .oeq main_v2 main_v63
  (main_v13, main_v18, main_v23, main_v28, main_v33, main_v38, main_v43, main_v48, main_v53, main_v57, main_v61, main_v64)

def fn_part2 {F : FTy → Type} [FloatOps F] (main_arg5 : FVec F S128 .f32) (main_arg6 : FVec F S128 .f32) (main_arg7 : FVec F S128 .f32) (main_arg8 : FVec F S128 .f32) (main_arg10 : IVec S2x4096 32) (main_v0 : IVec S64x64 32) (main_v1 : IVec S64x64 32) (main_v2 : FVec F S64x64 .f32) (main_v5 : FVec F S64x64 .f32) (main_v8 : FVec F S64x64 .f32) (main_v13 : IVec S128x64x128 1) (main_v18 : IVec S128x128 1) (main_v23 : IVec S128x128 1) (main_v28 : IVec S128x128 1) (main_v33 : IVec S128 1) (main_v35 : IVec S128 1) (main_cst_10 : FVec F S_ .f32) : IVec S128x64x128 1 × IVec S128x128 1 × IVec S128x128 1 × IVec S128x128 1 × IVec S128 1 × IVec S128 1 × IVec S128 1 × IVec S128 1 × IVec S128 1 × IVec S64x64 1 × IVec S64x64 1 × IVec S64x64 1 :=
  let main_v36 : FVec F S128 .f32 := broadcastInDim S128 ![] bcast_S_S128 main_cst_10
  let main_v37 : IVec S128 1 := cmpf .olt main_arg5 main_v36
  let main_v38 : IVec S128 1 := andi main_v35 main_v37
  let main_cst_11 : FVec F S_ .f32 := constant S_ .f32 0xFF800000#32
  let main_v39 : FVec F S128 .f32 := broadcastInDim S128 ![] bcast_S_S128 main_cst_11
  let main_v40 : IVec S128 1 := cmpf .ogt main_arg6 main_v39
  let main_cst_12 : FVec F S_ .f32 := constant S_ .f32 0x7F800000#32
  let main_v41 : FVec F S128 .f32 := broadcastInDim S128 ![] bcast_S_S128 main_cst_12
  let main_v42 : IVec S128 1 := cmpf .olt main_arg6 main_v41
  let main_v43 : IVec S128 1 := andi main_v40 main_v42
  let main_cst_13 : FVec F S_ .f32 := constant S_ .f32 0xFF800000#32
  let main_v44 : FVec F S128 .f32 := broadcastInDim S128 ![] bcast_S_S128 main_cst_13
  let main_v45 : IVec S128 1 := cmpf .ogt main_arg7 main_v44
  let main_cst_14 : FVec F S_ .f32 := constant S_ .f32 0x7F800000#32
  let main_v46 : FVec F S128 .f32 := broadcastInDim S128 ![] bcast_S_S128 main_cst_14
  let main_v47 : IVec S128 1 := cmpf .olt main_arg7 main_v46
  let main_v48 : IVec S128 1 := andi main_v45 main_v47
  let main_cst_15 : FVec F S_ .f32 := constant S_ .f32 0xFF800000#32
  let main_v49 : FVec F S128 .f32 := broadcastInDim S128 ![] bcast_S_S128 main_cst_15
  let main_v50 : IVec S128 1 := cmpf .ogt main_arg8 main_v49
  let main_cst_16 : FVec F S_ .f32 := constant S_ .f32 0x7F800000#32
  let main_v51 : FVec F S128 .f32 := broadcastInDim S128 ![] bcast_S_S128 main_cst_16
  let main_v52 : IVec S128 1 := cmpf .olt main_arg8 main_v51
  let main_v53 : IVec S128 1 := andi main_v50 main_v52
  fn_part3 (F := F) main_arg10 main_v0 main_v1 main_v2 main_v5 main_v8 main_v13 main_v18 main_v23 main_v28 main_v33 main_v38 main_v43 main_v48 main_v53

def fn_part1 {F : FTy → Type} [FloatOps F] (main_arg2 : FVec F S128x128 .f32) (main_arg3 : FVec F S128x128 .f32) (main_arg4 : FVec F S128 .f32) (main_arg5 : FVec F S128 .f32) (main_arg6 : FVec F S128 .f32) (main_arg7 : FVec F S128 .f32) (main_arg8 : FVec F S128 .f32) (main_arg10 : IVec S2x4096 32) (main_v0 : IVec S64x64 32) (main_v1 : IVec S64x64 32) (main_v2 : FVec F S64x64 .f32) (main_v5 : FVec F S64x64 .f32) (main_v8 : FVec F S64x64 .f32) (main_v13 : IVec S128x64x128 1) (main_v18 : IVec S128x128 1) (main_cst_3 : FVec F S_ .f32) : IVec S128x64x128 1 × IVec S128x128 1 × IVec S128x128 1 × IVec S128x128 1 × IVec S128 1 × IVec S128 1 × IVec S128 1 × IVec S128 1 × IVec S128 1 × IVec S64x64 1 × IVec S64x64 1 × IVec S64x64 1 :=
  let main_v19 : FVec F S128x128 .f32 := broadcastInDim S128x128 ![] bcast_S_S128x128 main_cst_3
  let main_v20 : IVec S128x128 1 := cmpf .ogt main_arg2 main_v19
  let main_cst_4 : FVec F S_ .f32 := constant S_ .f32 0x7F800000#32
  let main_v21 : FVec F S128x128 .f32 := broadcastInDim S128x128 ![] bcast_S_S128x128 main_cst_4
  let main_v22 : IVec S128x128 1 := cmpf .olt main_arg2 main_v21
  let main_v23 : IVec S128x128 1 := andi main_v20 main_v22
  let main_cst_5 : FVec F S_ .f32 := constant S_ .f32 0xFF800000#32
  let main_v24 : FVec F S128x128 .f32 := broadcastInDim S128x128 ![] bcast_S_S128x128 main_cst_5
  let main_v25 : IVec S128x128 1 := cmpf .ogt main_arg3 main_v24
  let main_cst_6 : FVec F S_ .f32 := constant S_ .f32 0x7F800000#32
  let main_v26 : FVec F S128x128 .f32 := broadcastInDim S128x128 ![] bcast_S_S128x128 main_cst_6
  let main_v27 : IVec S128x128 1 := cmpf .olt main_arg3 main_v26
  let main_v28 : IVec S128x128 1 := andi main_v25 main_v27
  let main_cst_7 : FVec F S_ .f32 := constant S_ .f32 0xFF800000#32
  let main_v29 : FVec F S128 .f32 := broadcastInDim S128 ![] bcast_S_S128 main_cst_7
  let main_v30 : IVec S128 1 := cmpf .ogt main_arg4 main_v29
  let main_cst_8 : FVec F S_ .f32 := constant S_ .f32 0x7F800000#32
  let main_v31 : FVec F S128 .f32 := broadcastInDim S128 ![] bcast_S_S128 main_cst_8
  let main_v32 : IVec S128 1 := cmpf .olt main_arg4 main_v31
  let main_v33 : IVec S128 1 := andi main_v30 main_v32
  let main_cst_9 : FVec F S_ .f32 := constant S_ .f32 0xFF800000#32
  let main_v34 : FVec F S128 .f32 := broadcastInDim S128 ![] bcast_S_S128 main_cst_9
  let main_v35 : IVec S128 1 := cmpf .ogt main_arg5 main_v34
  let main_cst_10 : FVec F S_ .f32 := constant S_ .f32 0x7F800000#32
  fn_part2 (F := F) main_arg5 main_arg6 main_arg7 main_arg8 main_arg10 main_v0 main_v1 main_v2 main_v5 main_v8 main_v13 main_v18 main_v23 main_v28 main_v33 main_v35 main_cst_10

def fn {F : FTy → Type} [FloatOps F] (main_arg0 : FVec F S128x64x128 .f32) (main_arg1 : FVec F S128x128 .f32) (main_arg2 : FVec F S128x128 .f32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128 .f32) (main_arg10 : IVec S2x4096 32) (main_arg11 : FVec F S4096 .f32) : IVec S128x64x128 1 × IVec S128x128 1 × IVec S128x128 1 × IVec S128x128 1 × IVec S128 1 × IVec S128 1 × IVec S128 1 × IVec S128 1 × IVec S128 1 × IVec S64x64 1 × IVec S64x64 1 × IVec S64x64 1 :=
  let main_v0 : IVec S64x64 32 := iotaInDim S64x64 32 0
  let main_v1 : IVec S64x64 32 := iotaInDim S64x64 32 1
  let main_v2 : FVec F S64x64 .f32 := shapeCast S64x64 main_arg11 shapeCasts_S4096_S64x64
  let main_v3 : FVec F S1 .f32 := (extractStridedSlice S1 ![0] · slices_S4096_S1_0) main_arg11
  let main_v4 : FVec F S_ .f32 := shapeCast S_ main_v3 shapeCasts_S1_S_
  let main_v5 : FVec F S64x64 .f32 := broadcastInDim S64x64 ![] bcast_S_S64x64 main_v4
  let main_v6 : FVec F S1 .f32 := (extractStridedSlice S1 ![1] · slices_S4096_S1_1) main_arg11
  let main_v7 : FVec F S_ .f32 := shapeCast S_ main_v6 shapeCasts_S1_S_
  let main_v8 : FVec F S64x64 .f32 := broadcastInDim S64x64 ![] bcast_S_S64x64 main_v7
  let main_cst : FVec F S_ .f32 := constant S_ .f32 0xFF800000#32
  let main_v9 : FVec F S128x64x128 .f32 := broadcastInDim S128x64x128 ![] bcast_S_S128x64x128 main_cst
  let main_v10 : IVec S128x64x128 1 := cmpf .ogt main_arg0 main_v9
  let main_cst_0 : FVec F S_ .f32 := constant S_ .f32 0x7F800000#32
  let main_v11 : FVec F S128x64x128 .f32 := broadcastInDim S128x64x128 ![] bcast_S_S128x64x128 main_cst_0
  let main_v12 : IVec S128x64x128 1 := cmpf .olt main_arg0 main_v11
  let main_v13 : IVec S128x64x128 1 := andi main_v10 main_v12
  let main_cst_1 : FVec F S_ .f32 := constant S_ .f32 0xFF800000#32
  let main_v14 : FVec F S128x128 .f32 := broadcastInDim S128x128 ![] bcast_S_S128x128 main_cst_1
  let main_v15 : IVec S128x128 1 := cmpf .ogt main_arg1 main_v14
  let main_cst_2 : FVec F S_ .f32 := constant S_ .f32 0x7F800000#32
  let main_v16 : FVec F S128x128 .f32 := broadcastInDim S128x128 ![] bcast_S_S128x128 main_cst_2
  let main_v17 : IVec S128x128 1 := cmpf .olt main_arg1 main_v16
  let main_v18 : IVec S128x128 1 := andi main_v15 main_v17
  let main_cst_3 : FVec F S_ .f32 := constant S_ .f32 0xFF800000#32
  fn_part1 (F := F) main_arg2 main_arg3 main_arg4 main_arg5 main_arg6 main_arg7 main_arg8 main_arg10 main_v0 main_v1 main_v2 main_v5 main_v8 main_v13 main_v18 main_cst_3
-- ==== Kernel.lean ====
abbrev S128x64x128 : Shape := ⟨3, ![128, 64, 128]⟩
abbrev S128x128 : Shape := ⟨2, ![128, 128]⟩
abbrev S128 : Shape := ⟨1, ![128]⟩
abbrev S2x4096 : Shape := ⟨2, ![2, 4096]⟩
abbrev S4096 : Shape := ⟨1, ![4096]⟩
abbrev S64x64 : Shape := ⟨2, ![64, 64]⟩
abbrev S64x2x64x128 : Shape := ⟨4, ![64, 2, 64, 128]⟩
abbrev S1x128 : Shape := ⟨2, ![1, 128]⟩
abbrev S64x2x128 : Shape := ⟨3, ![64, 2, 128]⟩
abbrev S8x2x64x128 : Shape := ⟨4, ![8, 2, 64, 128]⟩
abbrev S64 : Shape := ⟨1, ![64]⟩
abbrev S64x1 : Shape := ⟨2, ![64, 1]⟩
abbrev S1x64 : Shape := ⟨2, ![1, 64]⟩
abbrev S1x1x64x1 : Shape := ⟨4, ![1, 1, 64, 1]⟩
abbrev S8x2x128 : Shape := ⟨3, ![8, 2, 128]⟩
abbrev S8x2x1x128 : Shape := ⟨4, ![8, 2, 1, 128]⟩
abbrev S1x1x1x128 : Shape := ⟨4, ![1, 1, 1, 128]⟩
abbrev S64x2x1x128 : Shape := ⟨4, ![64, 2, 1, 128]⟩

abbrev nBuf : Space → Nat
  | .hbm => 21
  | .vmem => 16
  | .smem => 0
  | _ => 0

abbrev bufTy : (tb : Table) → Fin (tcTables nBuf tb) → BufTy
  | .hbm, ⟨0, _⟩ => ⟨S128x64x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S2x4096, .i32⟩
  | .hbm, ⟨11, _⟩ => ⟨S4096, .f32⟩
  | .hbm, ⟨12, _⟩ => ⟨S64x64, .f32⟩
  | .hbm, ⟨13, _⟩ => ⟨S64x2x64x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S64x2x128, .f32⟩
  | .local _ .vmem, ⟨0, _⟩ => ⟨S64x64, .f32⟩
  | .local _ .vmem, ⟨1, _⟩ => ⟨S8x2x64x128, .f32⟩
  | .local _ .vmem, ⟨2, _⟩ => ⟨S8x2x64x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S64x2x128, .f32⟩
  | .local _ .vmem, ⟨13, _⟩ => ⟨S64x2x64x128, .f32⟩
  | .local _ .vmem, ⟨14, _⟩ => ⟨S1x128, .f32⟩
  | .local _ .vmem, ⟨15, _⟩ => ⟨S1x128, .f32⟩
  | _, _ => ⟨S128x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_v0 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨1, ![8], ![false]⟩

def k0_off1 (i : grid0.Coords) : Fin 4 → Nat :=
  let arg0 : BitVec 32 := BitVec.ofNat 32 (i 0).val
  let c8_i32 : BitVec 32 := 8#32
  let v43 : BitVec 32 := Scalar.muli arg0 c8_i32
  let v44 : Index := Scalar.indexCast v43
  let c0_14 : Index := 0#32
  let c0_15 : Index := 0#32
  let c0_16 : Index := 0#32
  ![v44.toNat, 0, 0, 0]
def k0_cond3 (i : grid0.Coords) : BitVec 1 :=
  let arg0 : BitVec 32 := BitVec.ofNat 32 (i 0).val
  let c7_i32 : BitVec 32 := 7#32
  let v59 : BitVec 1 := Scalar.cmpi .eq arg0 c7_i32
  let v60 : BitVec 32 := Scalar.extui v59
  let c0_i32_22 : BitVec 32 := 0#32
  let v61 : BitVec 1 := Scalar.cmpi .ne v60 c0_i32_22
  v61

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x2x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "inv_offdiag" => some ((1 / 63 : ℝ) : EReal)
  | _ => none
-- ==== ReferenceIdeal.lean ====
abbrev S128x64x128 : Shape := ⟨3, ![128, 64, 128]⟩
abbrev S128x128 : Shape := ⟨2, ![128, 128]⟩
abbrev S128 : Shape := ⟨1, ![128]⟩
abbrev S2x4096 : Shape := ⟨2, ![2, 4096]⟩
abbrev S4096 : Shape := ⟨1, ![4096]⟩
abbrev S_ : Shape := ⟨0, ![]⟩
abbrev S128x1 : Shape := ⟨2, ![128, 1]⟩
abbrev S1x4096 : Shape := ⟨2, ![1, 4096]⟩
abbrev S128x4096 : Shape := ⟨2, ![128, 4096]⟩
abbrev S524288 : Shape := ⟨1, ![524288]⟩
abbrev S8192 : Shape := ⟨1, ![8192]⟩
abbrev S532480 : Shape := ⟨1, ![532480]⟩
abbrev S532480x1 : Shape := ⟨2, ![532480, 1]⟩
abbrev S8192x128 : Shape := ⟨2, ![8192, 128]⟩
abbrev S532480x128 : Shape := ⟨2, ![532480, 128]⟩
abbrev S1x128 : Shape := ⟨2, ![1, 128]⟩
abbrev S128x64 : Shape := ⟨2, ![128, 64]⟩
abbrev S8192x1 : Shape := ⟨2, ![8192, 1]⟩
abbrev S64x2x128 : Shape := ⟨3, ![64, 2, 128]⟩

abbrev nBuf : Space → Nat
  | .hbm => 278
  | .vmem => 0
  | .smem => 0
  | _ => 0

abbrev hbmTy0_0 (i : Nat) : BufTy := match i % 128 with
  | 0 => ⟨S128x64x128, .f32⟩
  | 1 => ⟨S128x128, .f32⟩
  | 2 => ⟨S128x128, .f32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128, .f32⟩
  | 10 => ⟨S2x4096, .i32⟩
  | 11 => ⟨S4096, .f32⟩
  | 12 => ⟨S128, .i32⟩
  | 13 => ⟨S_, .i32⟩
  | 14 => ⟨S128, .i32⟩
  | 15 => ⟨S128, .i32⟩
  | 16 => ⟨S128x1, .i32⟩
  | 17 => ⟨S1x4096, .i32⟩
  | 18 => ⟨S4096, .i32⟩
  | 19 => ⟨S1x4096, .i32⟩
  | 20 => ⟨S128x4096, .i32⟩
  | 21 => ⟨S128x4096, .i32⟩
  | 22 => ⟨S128x4096, .i32⟩
  | 23 => ⟨S524288, .i32⟩
  | 24 => ⟨S1x4096, .i32⟩
  | 25 => ⟨S4096, .i32⟩
  | 26 => ⟨S1x4096, .i32⟩
  | 27 => ⟨S128x4096, .i32⟩
  | 28 => ⟨S128x4096, .i32⟩
  | 29 => ⟨S128x4096, .i32⟩
  | 30 => ⟨S524288, .i32⟩
  | 31 => ⟨S1x4096, .f32⟩
  | 32 => ⟨S128x4096, .f32⟩
  | 33 => ⟨S524288, .f32⟩
  | 34 => ⟨S8192, .i32⟩
  | 35 => ⟨S532480, .i32⟩
  | 36 => ⟨S532480, .i32⟩
  | 37 => ⟨S_, .f32⟩
  | 38 => ⟨S8192, .f32⟩
  | 39 => ⟨S532480, .f32⟩
  | 40 => ⟨S_, .f32⟩
  | 41 => ⟨S8192, .f32⟩
  | 42 => ⟨S532480x1, .i32⟩
  | 43 => ⟨S8192, .f32⟩
  | 44 => ⟨S_, .f32⟩
  | 45 => ⟨S8192, .f32⟩
  | 46 => ⟨S8192, .i1⟩
  | 47 => ⟨S_, .f32⟩
  | 48 => ⟨S8192, .f32⟩
  | 49 => ⟨S8192, .f32⟩
  | 50 => ⟨S_, .f32⟩
  | 51 => ⟨S_, .f32⟩
  | 52 => ⟨S8192, .f32⟩
  | 53 => ⟨S8192, .f32⟩
  | 54 => ⟨S_, .i32⟩
  | 55 => ⟨S532480, .i32⟩
  | 56 => ⟨S532480, .i1⟩
  | 57 => ⟨S_, .i32⟩
  | 58 => ⟨S532480, .i32⟩
  | 59 => ⟨S532480, .i32⟩
  | 60 => ⟨S532480, .i32⟩
  | 61 => ⟨S532480x1, .i32⟩
  | 62 => ⟨S532480, .f32⟩
  | 63 => ⟨S532480, .f32⟩
  | 64 => ⟨S_, .i32⟩
  | 65 => ⟨S532480, .i32⟩
  | 66 => ⟨S532480, .i1⟩
  | 67 => ⟨S_, .i32⟩
  | 68 => ⟨S532480, .i32⟩
  | 69 => ⟨S532480, .i32⟩
  | 70 => ⟨S532480, .i32⟩
  | 71 => ⟨S532480x1, .i32⟩
  | 72 => ⟨S532480, .f32⟩
  | 73 => ⟨S532480, .f32⟩
  | 74 => ⟨S8192x128, .f32⟩
  | 75 => ⟨S8192x128, .f32⟩
  | 76 => ⟨S_, .i32⟩
  | 77 => ⟨S532480, .i32⟩
  | 78 => ⟨S532480, .i1⟩
  | 79 => ⟨S_, .i32⟩
  | 80 => ⟨S532480, .i32⟩
  | 81 => ⟨S532480, .i32⟩
  | 82 => ⟨S532480, .i32⟩
  | 83 => ⟨S532480x1, .i32⟩
  | 84 => ⟨S532480x128, .f32⟩
  | 85 => ⟨S532480x1, .f32⟩
  | 86 => ⟨S532480x128, .f32⟩
  | 87 => ⟨S532480x128, .f32⟩
  | 88 => ⟨S_, .f32⟩
  | 89 => ⟨S8192x128, .f32⟩
  | 90 => ⟨S532480x1, .i32⟩
  | 91 => ⟨S8192x128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S8192x128, .f32⟩
  | 105 => ⟨S8192x128, .f32⟩
  | 106 => ⟨S8192x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S8192x128, .f32⟩
  | 122 => ⟨S8192x128, .f32⟩
  | 123 => ⟨S_, .f32⟩
  | 124 => ⟨S128, .f32⟩
  | 125 => ⟨S128, .f32⟩
  | 126 => ⟨S128, .f32⟩
  | 127 => ⟨S1x128, .f32⟩
  | _ => ⟨S128x64x128, .f32⟩

abbrev hbmTy0_1 (i : Nat) : BufTy := match i % 128 with
  | 0 => ⟨S8192x128, .f32⟩
  | 1 => ⟨S8192x128, .f32⟩
  | 2 => ⟨S1x128, .f32⟩
  | 3 => ⟨S8192x128, .f32⟩
  | 4 => ⟨S8192x128, .f32⟩
  | 5 => ⟨S1x128, .f32⟩
  | 6 => ⟨S8192x128, .f32⟩
  | 7 => ⟨S8192x128, .f32⟩
  | 8 => ⟨S_, .f32⟩
  | 9 => ⟨S8192x128, .f32⟩
  | 10 => ⟨S8192x128, .f32⟩
  | 11 => ⟨S8192x128, .f32⟩
  | 12 => ⟨S_, .i32⟩
  | 13 => ⟨S532480, .i32⟩
  | 14 => ⟨S532480, .i1⟩
  | 15 => ⟨S_, .i32⟩
  | 16 => ⟨S532480, .i32⟩
  | 17 => ⟨S532480, .i32⟩
  | 18 => ⟨S532480, .i32⟩
  | 19 => ⟨S532480x1, .i32⟩
  | 20 => ⟨S532480x128, .f32⟩
  | 21 => ⟨S532480x1, .f32⟩
  | 22 => ⟨S532480x128, .f32⟩
  | 23 => ⟨S532480x128, .f32⟩
  | 24 => ⟨S_, .f32⟩
  | 25 => ⟨S8192x128, .f32⟩
  | 26 => ⟨S532480x1, .i32⟩
  | 27 => ⟨S8192x128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S8192x128, .f32⟩
  | 41 => ⟨S8192x128, .f32⟩
  | 42 => ⟨S8192x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S8192x128, .f32⟩
  | 58 => ⟨S8192x128, .f32⟩
  | 59 => ⟨S_, .f32⟩
  | 60 => ⟨S128, .f32⟩
  | 61 => ⟨S128, .f32⟩
  | 62 => ⟨S128, .f32⟩
  | 63 => ⟨S1x128, .f32⟩
  | 64 => ⟨S8192x128, .f32⟩
  | 65 => ⟨S8192x128, .f32⟩
  | 66 => ⟨S1x128, .f32⟩
  | 67 => ⟨S8192x128, .f32⟩
  | 68 => ⟨S8192x128, .f32⟩
  | 69 => ⟨S1x128, .f32⟩
  | 70 => ⟨S8192x128, .f32⟩
  | 71 => ⟨S8192x128, .f32⟩
  | 72 => ⟨S_, .f32⟩
  | 73 => ⟨S8192x128, .f32⟩
  | 74 => ⟨S8192x128, .f32⟩
  | 75 => ⟨S8192x128, .f32⟩
  | 76 => ⟨S_, .i32⟩
  | 77 => ⟨S532480, .i32⟩
  | 78 => ⟨S532480, .i1⟩
  | 79 => ⟨S_, .i32⟩
  | 80 => ⟨S532480, .i32⟩
  | 81 => ⟨S532480, .i32⟩
  | 82 => ⟨S532480, .i32⟩
  | 83 => ⟨S532480x1, .i32⟩
  | 84 => ⟨S532480x128, .f32⟩
  | 85 => ⟨S532480x1, .f32⟩
  | 86 => ⟨S532480x128, .f32⟩
  | 87 => ⟨S532480x128, .f32⟩
  | 88 => ⟨S_, .f32⟩
  | 89 => ⟨S8192x128, .f32⟩
  | 90 => ⟨S532480x1, .i32⟩
  | 91 => ⟨S8192x128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S8192x128, .f32⟩
  | 105 => ⟨S8192x128, .f32⟩
  | 106 => ⟨S8192x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S8192x128, .f32⟩
  | 122 => ⟨S8192x128, .f32⟩
  | 123 => ⟨S_, .f32⟩
  | 124 => ⟨S128, .f32⟩
  | 125 => ⟨S128, .f32⟩
  | 126 => ⟨S128, .f32⟩
  | 127 => ⟨S1x128, .f32⟩
  | _ => ⟨S128x64x128, .f32⟩

abbrev hbmTy0_2 (i : Nat) : BufTy := match i % 128 with
  | 0 => ⟨S8192x128, .f32⟩
  | 1 => ⟨S8192x128, .f32⟩
  | 2 => ⟨S1x128, .f32⟩
  | 3 => ⟨S8192x128, .f32⟩
  | 4 => ⟨S8192x128, .f32⟩
  | 5 => ⟨S1x128, .f32⟩
  | 6 => ⟨S8192x128, .f32⟩
  | 7 => ⟨S8192x128, .f32⟩
  | 8 => ⟨S_, .f32⟩
  | 9 => ⟨S8192x128, .f32⟩
  | 10 => ⟨S8192x128, .f32⟩
  | 11 => ⟨S128, .i32⟩
  | 12 => ⟨S128x64, .i32⟩
  | 13 => ⟨S8192, .i32⟩
  | 14 => ⟨S_, .f32⟩
  | 15 => ⟨S128x128, .f32⟩
  | 16 => ⟨S8192x1, .i32⟩
  | 17 => ⟨S128x128, .f32⟩
  | 18 => ⟨S_, .f32⟩
  | 19 => ⟨S128x128, .f32⟩
  | 20 => ⟨S128x128, .f32⟩
  | 21 => ⟨S64x2x128, .f32⟩
  | _ => ⟨S128x64x128, .f32⟩

abbrev hbmTy (i : Nat) : BufTy := match i / 128 with
  | 0 => hbmTy0_0 i
  | 1 => hbmTy0_1 i
  | 2 => hbmTy0_2 i
  | _ => ⟨S128x64x128, .f32⟩

abbrev bufTy : (tb : Table) → Fin (tcTables nBuf tb) → BufTy
  | .hbm, ⟨i, _⟩ => hbmTy i
  | _, _ => ⟨S128x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_cst_0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_call0_v0 : Ref sig .tc := ⟨.hbm, 51, rfl⟩
abbrev main_call0_v1 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_6 : Ref sig .tc := ⟨.hbm, 64, rfl⟩
abbrev main_v42 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_8 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_cst_0 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_cst_1 : Ref sig .tc := ⟨.hbm, 108, rfl⟩
abbrev main_call1_v8 : Ref sig .tc := ⟨.hbm, 109, rfl⟩
abbrev main_call1_cst_2 : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_call1_cst_3 : Ref sig .tc := ⟨.hbm, 114, rfl⟩
abbrev main_call1_v12 : Ref sig .tc := ⟨.hbm, 115, rfl⟩
abbrev main_call1_cst_4 : Ref sig .tc := ⟨.hbm, 116, rfl⟩
abbrev main_call1_call0_v0 : Ref sig .tc := ⟨.hbm, 117, rfl⟩
abbrev main_call1_call0_v1 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_14 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_call2_cst : Ref sig .tc := ⟨.hbm, 136, rfl⟩
abbrev main_call2_v0 : Ref sig .tc := ⟨.hbm, 137, rfl⟩
abbrev main_v84 : Ref sig .tc := ⟨.hbm, 138, rfl⟩
abbrev main_v85 : Ref sig .tc := ⟨.hbm, 139, rfl⟩
abbrev main_c_15 : Ref sig .tc := ⟨.hbm, 140, rfl⟩
abbrev main_v86 : Ref sig .tc := ⟨.hbm, 141, rfl⟩
abbrev main_v87 : Ref sig .tc := ⟨.hbm, 142, rfl⟩
abbrev main_c_16 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_cst_17 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_cst_18 : Ref sig .tc := ⟨.hbm, 156, rfl⟩
abbrev main_v99 : Ref sig .tc := ⟨.hbm, 157, rfl⟩
abbrev main_cst_19 : Ref sig .tc := ⟨.hbm, 158, rfl⟩
abbrev main_v100 : Ref sig .tc := ⟨.hbm, 159, rfl⟩
abbrev main_v101 : Ref sig .tc := ⟨.hbm, 160, rfl⟩
abbrev main_c_20 : Ref sig .tc := ⟨.hbm, 161, rfl⟩
abbrev main_call3_cst : Ref sig .tc := ⟨.hbm, 162, rfl⟩
abbrev main_call3_v0 : Ref sig .tc := ⟨.hbm, 163, rfl⟩
abbrev main_call3_v1 : Ref sig .tc := ⟨.hbm, 164, rfl⟩
abbrev main_call3_cst_0 : Ref sig .tc := ⟨.hbm, 165, rfl⟩
abbrev main_call3_v2 : Ref sig .tc := ⟨.hbm, 166, rfl⟩
abbrev main_call3_v3 : Ref sig .tc := ⟨.hbm, 167, rfl⟩
abbrev main_call3_v4 : Ref sig .tc := ⟨.hbm, 168, rfl⟩
abbrev main_call3_v5 : Ref sig .tc := ⟨.hbm, 169, rfl⟩
abbrev main_call3_v6 : Ref sig .tc := ⟨.hbm, 170, rfl⟩
abbrev main_call3_v7 : Ref sig .tc := ⟨.hbm, 171, rfl⟩
abbrev main_call3_cst_1 : Ref sig .tc := ⟨.hbm, 172, rfl⟩
abbrev main_call3_v8 : Ref sig .tc := ⟨.hbm, 173, rfl⟩
abbrev main_call3_cst_2 : Ref sig .tc := ⟨.hbm, 174, rfl⟩
abbrev main_call3_v9 : Ref sig .tc := ⟨.hbm, 175, rfl⟩
abbrev main_call3_v10 : Ref sig .tc := ⟨.hbm, 176, rfl⟩
abbrev main_call3_v11 : Ref sig .tc := ⟨.hbm, 177, rfl⟩
abbrev main_call3_cst_3 : Ref sig .tc := ⟨.hbm, 178, rfl⟩
abbrev main_call3_v12 : Ref sig .tc := ⟨.hbm, 179, rfl⟩
abbrev main_call3_cst_4 : Ref sig .tc := ⟨.hbm, 180, rfl⟩
abbrev main_call3_call0_v0 : Ref sig .tc := ⟨.hbm, 181, rfl⟩
abbrev main_call3_call0_v1 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_cst_21 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_call4_cst : Ref sig .tc := ⟨.hbm, 200, rfl⟩
abbrev main_call4_v0 : Ref sig .tc := ⟨.hbm, 201, rfl⟩
abbrev main_v118 : Ref sig .tc := ⟨.hbm, 202, rfl⟩
abbrev main_v119 : Ref sig .tc := ⟨.hbm, 203, rfl⟩
abbrev main_c_22 : Ref sig .tc := ⟨.hbm, 204, rfl⟩
abbrev main_v120 : Ref sig .tc := ⟨.hbm, 205, rfl⟩
abbrev main_v121 : Ref sig .tc := ⟨.hbm, 206, rfl⟩
abbrev main_c_23 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_cst_24 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_cst_25 : Ref sig .tc := ⟨.hbm, 220, rfl⟩
abbrev main_v133 : Ref sig .tc := ⟨.hbm, 221, rfl⟩
abbrev main_cst_26 : Ref sig .tc := ⟨.hbm, 222, rfl⟩
abbrev main_v134 : Ref sig .tc := ⟨.hbm, 223, rfl⟩
abbrev main_v135 : Ref sig .tc := ⟨.hbm, 224, rfl⟩
abbrev main_c_27 : Ref sig .tc := ⟨.hbm, 225, rfl⟩
abbrev main_call5_cst : Ref sig .tc := ⟨.hbm, 226, rfl⟩
abbrev main_call5_v0 : Ref sig .tc := ⟨.hbm, 227, rfl⟩
abbrev main_call5_v1 : Ref sig .tc := ⟨.hbm, 228, rfl⟩
abbrev main_call5_cst_0 : Ref sig .tc := ⟨.hbm, 229, rfl⟩
abbrev main_call5_v2 : Ref sig .tc := ⟨.hbm, 230, rfl⟩
abbrev main_call5_v3 : Ref sig .tc := ⟨.hbm, 231, rfl⟩
abbrev main_call5_v4 : Ref sig .tc := ⟨.hbm, 232, rfl⟩
abbrev main_call5_v5 : Ref sig .tc := ⟨.hbm, 233, rfl⟩
abbrev main_call5_v6 : Ref sig .tc := ⟨.hbm, 234, rfl⟩
abbrev main_call5_v7 : Ref sig .tc := ⟨.hbm, 235, rfl⟩
abbrev main_call5_cst_1 : Ref sig .tc := ⟨.hbm, 236, rfl⟩
abbrev main_call5_v8 : Ref sig .tc := ⟨.hbm, 237, rfl⟩
abbrev main_call5_cst_2 : Ref sig .tc := ⟨.hbm, 238, rfl⟩
abbrev main_call5_v9 : Ref sig .tc := ⟨.hbm, 239, rfl⟩
abbrev main_call5_v10 : Ref sig .tc := ⟨.hbm, 240, rfl⟩
abbrev main_call5_v11 : Ref sig .tc := ⟨.hbm, 241, rfl⟩
abbrev main_call5_cst_3 : Ref sig .tc := ⟨.hbm, 242, rfl⟩
abbrev main_call5_v12 : Ref sig .tc := ⟨.hbm, 243, rfl⟩
abbrev main_call5_cst_4 : Ref sig .tc := ⟨.hbm, 244, rfl⟩
abbrev main_call5_call0_v0 : Ref sig .tc := ⟨.hbm, 245, rfl⟩
abbrev main_call5_call0_v1 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩
abbrev main_cst_28 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_call6_cst : Ref sig .tc := ⟨.hbm, 264, rfl⟩
abbrev main_call6_v0 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_v155 : Ref sig .tc := ⟨.hbm, 269, rfl⟩
abbrev main_cst_29 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_cst_30 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩

abbrev nD : Nat := 1
abbrev τ : Topo := Topo.v7x

variable {F : FTy → Type} [FloatOps F]
-- ==== Proof.Rounded.Result.lean ====
/-
The frame of the kernel as written.
-/
module

public import Idealize.ShloMosaic.Lib.Pipeline.ValueKit
public import proofs.«01_k».proof.Proof.Rounded.Launch

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame: every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (data m) (data_A m) ((θ_run defs _ _).mono (fun _ h => h.1) (launched m ρ)))
    ((θ_run defs _ _).mono (fun _ h => h.2) (launched m ρ))

end Cert.Kernel.Body

end
-- ==== Proof.Ideal.Points.lean ====
/-
The grid point's three branch conditions and the memrefs the body is called with.

The grid has eight points.  The body branches on "this is the first point", "this is a later point" and
"this is the last point"; here each condition is turned into arithmetic of the point's number.
-/
module

public import proofs.«01_k».proof.Proof.Gen.KernelIdeal.Frame
public import proofs.«01_k».proof.Proof.Gen.KernelIdeal.Skeleton

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The body's test for the first point. -/
abbrev isFirst (i : grid0.Coords) : Prop :=
  (Scalar.cmpi .ne (Scalar.extui (Scalar.cmpi .eq (BitVec.ofNat 32 (i 0).val) 0#32)) 0#32) = 1#1

/-- The body's test for a point after the first. -/
abbrev isLater (i : grid0.Coords) : Prop :=
  (Scalar.cmpi .ne (Scalar.extui (Scalar.cmpi .sgt (BitVec.ofNat 32 (i 0).val) 0#32)) 0#32) = 1#1

/-- The body's test for the last point. -/
abbrev isLast (i : grid0.Coords) : Prop := k0_cond3 i = 1#1

/-- The first point is point 0. -/
theorem isFirst_iff : ∀ t : Fin cfg0.N, isFirst (grid0.coords t) ↔ t.val = 0 :=
  (by decide +kernel : ∀ t : Fin grid0.N, isFirst (grid0.coords t) ↔ t.val = 0)

/-- The later points are those from 1 on. -/
theorem isLater_iff : ∀ t : Fin cfg0.N, isLater (grid0.coords t) ↔ 1 ≤ t.val :=
  (by decide +kernel : ∀ t : Fin grid0.N, isLater (grid0.coords t) ↔ 1 ≤ t.val)

/-- The last point is point 7. -/
theorem isLast_iff : ∀ t : Fin cfg0.N, isLast (grid0.coords t) ↔ t.val = 7 :=
  (by decide +kernel : ∀ t : Fin grid0.N, isLast (grid0.coords t) ↔ t.val = 7)

/-- A point's number is below eight. -/
theorem point_lt (t : Fin cfg0.N) : t.val < 8 := lt_of_lt_of_eq t.isLt N_0

/-- The staging memref window 0 is served through at point `t`. -/
abbrev stg0 (t : Fin cfg0.N) : Memref sig .tc .vmem S64x64 .f32 := win0_0.stage (cfg0.slots t 0)
/-- It is a whole buffer. -/
abbrev stg0_whole (t : Fin cfg0.N) : (stg0 t).IsWhole := hstage0_0 ((cfg0.slots t 0).cast nbuf0_0)
/-- The staging memref window 1 is served through at point `t`. -/
abbrev stg1 (t : Fin cfg0.N) : Memref sig .tc .vmem S8x2x64x128 .f32 := win0_1.stage (cfg0.slots t 1)
/-- It is a whole buffer. -/
abbrev stg1_whole (t : Fin cfg0.N) : (stg1 t).IsWhole := hstage0_1 ((cfg0.slots t 1).cast nbuf0_1)
/-- The staging memref window 2 is served through at point `t`. -/
abbrev stg2 (t : Fin cfg0.N) : Memref sig .tc .vmem S128x128 .f32 := win0_2.stage (cfg0.slots t 2)
/-- It is a whole buffer. -/
abbrev stg2_whole (t : Fin cfg0.N) : (stg2 t).IsWhole := hstage0_2 ((cfg0.slots t 2).cast nbuf0_2)
/-- The staging memref window 3 is served through at point `t`. -/
abbrev stg3 (t : Fin cfg0.N) : Memref sig .tc .vmem S128x128 .f32 := win0_3.stage (cfg0.slots t 3)
/-- It is a whole buffer. -/
abbrev stg3_whole (t : Fin cfg0.N) : (stg3 t).IsWhole := hstage0_3 ((cfg0.slots t 3).cast nbuf0_3)
/-- The staging memref window 4 is served through at point `t`. -/
abbrev stg4 (t : Fin cfg0.N) : Memref sig .tc .vmem S128x128 .f32 := win0_4.stage (cfg0.slots t 4)
/-- It is a whole buffer. -/
abbrev stg4_whole (t : Fin cfg0.N) : (stg4 t).IsWhole := hstage0_4 ((cfg0.slots t 4).cast nbuf0_4)
/-- The staging memref window 5 is served through at point `t`. -/
abbrev stg5 (t : Fin cfg0.N) : Memref sig .tc .vmem S1x128 .f32 := win0_5.stage (cfg0.slots t 5)
/-- It is a whole buffer. -/
abbrev stg5_whole (t : Fin cfg0.N) : (stg5 t).IsWhole := hstage0_5 ((cfg0.slots t 5).cast nbuf0_5)
/-- The staging memref window 6 is served through at point `t`. -/
abbrev stg6 (t : Fin cfg0.N) : Memref sig .tc .vmem S1x128 .f32 := win0_6.stage (cfg0.slots t 6)
/-- It is a whole buffer. -/
abbrev stg6_whole (t : Fin cfg0.N) : (stg6 t).IsWhole := hstage0_6 ((cfg0.slots t 6).cast nbuf0_6)
/-- The staging memref window 7 is served through at point `t`. -/
abbrev stg7 (t : Fin cfg0.N) : Memref sig .tc .vmem S1x128 .f32 := win0_7.stage (cfg0.slots t 7)
/-- It is a whole buffer. -/
abbrev stg7_whole (t : Fin cfg0.N) : (stg7 t).IsWhole := hstage0_7 ((cfg0.slots t 7).cast nbuf0_7)
/-- The staging memref window 8 is served through at point `t`. -/
abbrev stg8 (t : Fin cfg0.N) : Memref sig .tc .vmem S1x128 .f32 := win0_8.stage (cfg0.slots t 8)
/-- It is a whole buffer. -/
abbrev stg8_whole (t : Fin cfg0.N) : (stg8 t).IsWhole := hstage0_8 ((cfg0.slots t 8).cast nbuf0_8)
/-- The staging memref window 9 is served through at point `t`. -/
abbrev stg9 (t : Fin cfg0.N) : Memref sig .tc .vmem S1x128 .f32 := win0_9.stage (cfg0.slots t 9)
/-- It is a whole buffer. -/
abbrev stg9_whole (t : Fin cfg0.N) : (stg9 t).IsWhole := hstage0_9 ((cfg0.slots t 9).cast nbuf0_9)
/-- The staging memref window 10 is served through at point `t`. -/
abbrev stg10 (t : Fin cfg0.N) : Memref sig .tc .vmem S1x128 .f32 := win0_10.stage (cfg0.slots t 10)
/-- It is a whole buffer. -/
abbrev stg10_whole (t : Fin cfg0.N) : (stg10 t).IsWhole := hstage0_10 ((cfg0.slots t 10).cast nbuf0_10)
/-- The staging memref window 11 is served through at point `t`. -/
abbrev stg11 (t : Fin cfg0.N) : Memref sig .tc .vmem S64x2x128 .f32 := win0_11.stage (cfg0.slots t 11)
/-- It is a whole buffer. -/
abbrev stg11_whole (t : Fin cfg0.N) : (stg11 t).IsWhole := hstage0_11 ((cfg0.slots t 11).cast nbuf0_11)

/-- The scratch that collects the first layer's products of all graphs. -/
abbrev scH : Memref sig .tc .vmem S64x2x64x128 .f32 := Memref.whole cc0_scratch0
/-- The scratch that collects the running column sum. -/
abbrev scS : Memref sig .tc .vmem S1x128 .f32 := Memref.whole cc0_scratch1
/-- The scratch that collects the running column sum of squares. -/
abbrev scQ : Memref sig .tc .vmem S1x128 .f32 := Memref.whole cc0_scratch2

/-- The class invariant opened: the three scratch buffers held at some contents, and the generator register. -/
theorem classInv_eq (c : Dev nD) :
    (Pipeline.ΦA spec0 c : sProp 𝕄)
      = iprop(iprop((∃ d, owns (c : Thread nD τ) scH fullShare d) ∗ (∃ d, owns (c : Thread nD τ) scS fullShare d)
          ∗ (∃ d, owns (c : Thread nD τ) scQ fullShare d)) ∗ (∃ r, prngReg c r)) := by
  unfold Pipeline.ΦA; rw [scopedRest0_eq]; simp only [scH, scS, scQ, owns_whole]; try rfl

end Cert.KernelIdeal.Body

end
-- ==== Proof.Ideal.Slice.lean ====
/-
What the body leaves, as plain functions of the values it reads: the products with one slice replaced,
and the result the last point stores.
-/
module

public import Idealize.ShloMosaic.Lib.VecWindow
public import proofs.«01_k».proof.Proof.Ideal.Points

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The collected products `x` with the slice of the point `i` replaced by `y`. -/
def putSlice (i : grid0.Coords) (x : Vec F S64x2x64x128 .f32) (y : Vec F S8x2x64x128 .f32) : Vec F S64x2x64x128 .f32 :=
  VecWindow.put x (k0_off1 i) S8x2x64x128.size (k0_pay1 y)

/-- A load of a whole buffer's own sizes, of the contents that represent `x`, reads `x`. -/
theorem load_whole {sp : Space} {s : Shape} {e : EltTy} (a : Memref sig .tc sp s e) (ha : a.IsWhole) (x : s.Idx → Elt F e)
    {off : Fin s.rank → ℕ} (inb : ∀ k, off k + s.size k ≤ s.size k) :
    a.view.readAt (Elt F) (Rect.unit off s.size inb).toLoadRect (ha.unread x) = x := by
  rw [View.readAt_full, ha.read_unread]

/-- The products computed from three whole loads are the products of the values those buffers hold. -/
theorem load_products (a1 : Memref sig .tc .vmem S64x64 .f32) (h1 : a1.IsWhole) (a2 : Memref sig .tc .vmem S8x2x64x128 .f32) (h2 : a2.IsWhole)
    (a3 : Memref sig .tc .vmem S128x128 .f32) (h3 : a3.IsWhole) (x0 : Vec F S64x64 .f32) (x1 : Vec F S8x2x64x128 .f32) (x2 : Vec F S128x128 .f32) :
    k0_pay20 (a1.view.readAt (Elt F) (Rect.unit ![0, 0] S64x64.size inb_S64x64_S64x64_0_0).toLoadRect (h1.unread x0))
      (a2.view.readAt (Elt F) (Rect.unit ![0, 0, 0, 0] S8x2x64x128.size inb_S8x2x64x128_S8x2x64x128_0_0_0_0).toLoadRect (h2.unread x1))
      (a3.view.readAt (Elt F) (Rect.unit ![0, 0] S128x128.size inb_S128x128_S128x128_0_0).toLoadRect (h3.unread x2)) = k0_pay20 x0 x1 x2 := by
  rw [load_whole, load_whole, load_whole]

/-- What the collected products hold after one slice was stored over contents that represent `x`. -/
theorem read_put (a : Memref sig .tc .vmem S64x2x64x128 .f32) (ha : a.IsWhole) (i : grid0.Coords) (x : Vec F S64x2x64x128 .f32)
    (y : Vec F S8x2x64x128 .f32) :
    a.view.read (Elt F) (a.view.writes (Elt F) (ha.unread x)
      [⟨Rect.unit (k0_off1 i) S8x2x64x128.size (k0_off1_inb i), k0_pay1 y⟩]) = putSlice i x y := by
  refine (View.read_writes_cons_put _ _ _ _ _ rfl).trans ?_
  rw [View.writes_nil, ha.read_unread]; rfl

/-- The second layer's products, from the edge weights, the first layer's products with their two sums, the first
    normalisation's scale and shift, and the second weight matrix. -/
def secondProducts (x0 : Vec F S64x64 .f32) (h : Vec F S64x2x64x128 .f32) (s q g1 b1 : Vec F S1x128 .f32)
    (W2 : Vec F S128x128 .f32) : Vec F S64x2x64x128 .f32 :=
  k0_pay9 (k0_pay18 x0) (k0_pay19 x0) h s q g1 b1 W2

/-- The pooled result, from the edge weights, the second layer's products, and the remaining parameters. -/
def poolResult (x0 : Vec F S64x64 .f32) (h2 : Vec F S64x2x64x128 .f32) (g2 b2 : Vec F S1x128 .f32)
    (W3 : Vec F S128x128 .f32) (g3 b3 : Vec F S1x128 .f32) : Vec F S64x2x128 .f32 :=
  k0_pay8 (k0_pay10 (k0_pay18 x0) (k0_pay19 x0) h2 g2 b2 W3) (k0_pay11 (k0_pay18 x0) (k0_pay19 x0) h2 g2 b2 W3)
    (k0_pay12 (k0_pay18 x0) (k0_pay19 x0) h2 g2 b2 W3) k0_pay13 g3 b3

/-- The result the last point stores, from everything it reads. -/
def lastOut (x0 : Vec F S64x64 .f32) (h : Vec F S64x2x64x128 .f32) (s q g1 b1 : Vec F S1x128 .f32)
    (W2 : Vec F S128x128 .f32) (g2 b2 : Vec F S1x128 .f32) (W3 : Vec F S128x128 .f32) (g3 b3 : Vec F S1x128 .f32) :
    Vec F S64x2x128 .f32 :=
  poolResult x0 (secondProducts x0 h s q g1 b1 W2) g2 b2 W3 g3 b3

/-- The result depends on the values read only. -/
theorem lastOut_congr {x0 y0 : Vec F S64x64 .f32} {h h' : Vec F S64x2x64x128 .f32} {s s' q q' g1 g1' b1 b1' : Vec F S1x128 .f32}
    {W2 W2' : Vec F S128x128 .f32} {g2 g2' b2 b2' : Vec F S1x128 .f32} {W3 W3' : Vec F S128x128 .f32} {g3 g3' b3 b3' : Vec F S1x128 .f32}
    (e0 : x0 = y0) (eh : h = h') (es : s = s') (eq : q = q') (eg1 : g1 = g1') (eb1 : b1 = b1') (eW2 : W2 = W2')
    (eg2 : g2 = g2') (eb2 : b2 = b2') (eW3 : W3 = W3') (eg3 : g3 = g3') (eb3 : b3 = b3') :
    lastOut x0 h s q g1 b1 W2 g2 b2 W3 g3 b3 = lastOut y0 h' s' q' g1' b1' W2' g2' b2' W3' g3' b3' := by
  subst e0 eh es eq eg1 eb1 eW2 eg2 eb2 eW3 eg3 eb3; rfl

end Cert.KernelIdeal.Body

end
-- ==== Proof.Ideal.Invariant.lean ====
/-
What the scratch buffers hold between grid points: the products of the points already run, and the two sums.
-/
module

public import Idealize.ShloMosaic.Lib.Pipeline.Value
public import proofs.«01_k».proof.Proof.Ideal.Slice

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The products point `t` computes from its blocks. -/
def prod (c : Dev nD) (t : Fin cfg0.N) : Vec F S8x2x64x128 .f32 := k0_pay20 (iblk m c 0 t) (iblk m c 1 t) (iblk m c 2 t)

/-- The running column sum after point `n`. -/
def sumS (c : Dev nD) : (n : ℕ) → n < cfg0.N → Vec F S1x128 .f32
  | 0, h => k0_pay4 (prod m c ⟨0, h⟩)
  | n + 1, h => k0_pay6 (prod m c ⟨n + 1, h⟩) (sumS c n (by omega))

/-- The running column sum of squares after point `n`. -/
def sumQ (c : Dev nD) : (n : ℕ) → n < cfg0.N → Vec F S1x128 .f32
  | 0, h => k0_pay5 (prod m c ⟨0, h⟩)
  | n + 1, h => k0_pay7 (prod m c ⟨n + 1, h⟩) (sumQ c n (by omega))

/-- The point whose slice an index of the collected products lies in. -/
def pointOf (z : S64x2x64x128.Idx) : Fin cfg0.N := ⟨(z 0).val / 8, by
  have h : (z 0).val < 64 := (z 0).isLt
  have hN : cfg0.N = 8 := N_0
  omega⟩

/-- Its place within that slice. -/
def within (z : S64x2x64x128.Idx) : S8x2x64x128.Idx := fun a => match a with
  | ⟨0, _⟩ => ⟨(z 0).val % 8, Nat.mod_lt _ (by decide)⟩
  | ⟨1, _⟩ => z 1
  | ⟨2, _⟩ => z 2
  | ⟨3, _⟩ => z 3

/-- The products of all points. -/
def allProds (c : Dev nD) : Vec F S64x2x64x128 .f32 := fun z => prod m c (pointOf z) (within z)

/-- The contents `d` agree with the products of all points on the slices of the first `n` points. -/
def Collected (c : Dev nD) (n : ℕ) (d : Vec F S64x2x64x128 .f32) : Prop :=
  ∀ z : S64x2x64x128.Idx, (z 0).val < 8 * n → d z = allProds m c z

/-- The offsets of a point's slice: eight graphs per point. -/
theorem off_eq : ∀ t : Fin cfg0.N, k0_off1 (grid0.coords t) = ![8 * t.val, 0, 0, 0] :=
  (by decide +kernel : ∀ t : Fin grid0.N, k0_off1 (grid0.coords t) = ![8 * t.val, 0, 0, 0])

/-- Before the first point nothing is asked of the contents. -/
theorem collected_zero (c : Dev nD) (d : Vec F S64x2x64x128 .f32) : Collected m c 0 d :=
  fun z h => absurd h (by omega)

/-- After a point its slice agrees too. -/
theorem collected_put (c : Dev nD) (t : Fin cfg0.N) (d : Vec F S64x2x64x128 .f32) (h : Collected m c t.val d) :
    Collected m c (t.val + 1) (putSlice (grid0.coords t) d (prod m c t)) := by
  intro z hz
  unfold putSlice VecWindow.put
  rw [off_eq t]
  by_cases hm : ∀ a, (![8 * t.val, 0, 0, 0] : Fin 4 → ℕ) a ≤ (z a).val ∧ (z a).val < (![8 * t.val, 0, 0, 0] : Fin 4 → ℕ) a + S8x2x64x128.size a
  · rw [dif_pos hm]
    have h0 := hm 0
    have e0 : (![8 * t.val, 0, 0, 0] : Fin 4 → ℕ) 0 = 8 * t.val := rfl
    have s0 : S8x2x64x128.size 0 = 8 := rfl
    have ht : pointOf z = t := Fin.ext (by show (z 0).val / 8 = t.val; omega)
    unfold allProds
    rw [ht]
    unfold k0_pay1
    show shapeCast S8x2x64x128 (prod m c t) _ _ = _
    rw [shapeCast_self]
    refine congrArg (prod m c t) (funext fun a => Fin.ext ?_)
    rw [Rect.unitLocal_val]
    match a with
    | ⟨0, _⟩ => show (z 0).val - 8 * t.val = (z 0).val % 8; omega
    | ⟨1, _⟩ => show (z 1).val - 0 = (z 1).val; omega
    | ⟨2, _⟩ => show (z 2).val - 0 = (z 2).val; omega
    | ⟨3, _⟩ => show (z 3).val - 0 = (z 3).val; omega
  · rw [dif_neg hm]
    refine h z ?_
    by_contra hlt
    refine hm fun a => ?_
    match a with
    | ⟨0, _⟩ => show 8 * t.val ≤ (z 0).val ∧ (z 0).val < 8 * t.val + 8; omega
    | ⟨1, _⟩ => exact ⟨Nat.zero_le _, by have := (z 1).isLt; show (z 1).val < 0 + 2; have e : S64x2x64x128.size 1 = 2 := rfl; omega⟩
    | ⟨2, _⟩ => exact ⟨Nat.zero_le _, by have := (z 2).isLt; show (z 2).val < 0 + 64; have e : S64x2x64x128.size 2 = 64 := rfl; omega⟩
    | ⟨3, _⟩ => exact ⟨Nat.zero_le _, by have := (z 3).isLt; show (z 3).val < 0 + 128; have e : S64x2x64x128.size 3 = 128 := rfl; omega⟩

/-- After the last point the contents are the products of all points. -/
theorem collected_all (c : Dev nD) (n : ℕ) (hn : n = 8) (d : Vec F S64x2x64x128 .f32) (h : Collected m c n d) : d = allProds m c :=
  funext fun z => h z (by have : (z 0).val < 64 := (z 0).isLt; omega)

/-- What the point `t` would store as the result, were it the last: it is stored at the last point only. -/
def result (c : Dev nD) (t : Fin cfg0.N) : Vec F S64x2x128 .f32 :=
  lastOut (iblk m c 0 t) (allProds m c) (sumS m c t.val t.isLt) (sumQ m c t.val t.isLt) (iblk m c 5 t) (iblk m c 6 t)
    (iblk m c 3 t) (iblk m c 7 t) (iblk m c 8 t) (iblk m c 4 t) (iblk m c 9 t) (iblk m c 10 t)

/-- The invariant before point `n`: at the start the scratch holds anything; later the finished slices and both sums. -/
def Inv (c : Dev nD) : (n : ℕ) → n ≤ cfg0.N → sProp 𝕄
  | 0, _ => Pipeline.ΦA spec0 c
  | n + 1, h => iprop(iprop((∃ d, ⌜Collected m c (n + 1) d⌝ ∗ owns (c : Thread nD τ) scH fullShare d)
      ∗ owns (c : Thread nD τ) scS fullShare (sumS m c n h) ∗ owns (c : Thread nD τ) scQ fullShare (sumQ m c n h))
      ∗ (∃ r, prngReg c r))

/-- The invariant at the start. -/
theorem Inv_zero (c : Dev nD) (n : ℕ) (h : n ≤ cfg0.N) (hz : n = 0) : Inv m c n h = Pipeline.ΦA spec0 c := by
  subst hz; rfl

/-- The invariant before a later point. -/
theorem Inv_pos (c : Dev nD) (n : ℕ) (h : n ≤ cfg0.N) (hz : n ≠ 0) :
    Inv m c n h = iprop(iprop((∃ d, ⌜Collected m c n d⌝ ∗ owns (c : Thread nD τ) scH fullShare d)
      ∗ owns (c : Thread nD τ) scS fullShare (sumS m c (n - 1) (by omega)) ∗ owns (c : Thread nD τ) scQ fullShare (sumQ m c (n - 1) (by omega)))
      ∗ (∃ r, prngReg c r)) := by
  cases n with
  | zero => exact absurd rfl hz
  | succ n => rfl

/-- The invariant after a point. -/
theorem Inv_succ (c : Dev nD) (t : Fin cfg0.N) :
    Inv m c (t.val + 1) t.isLt = iprop(iprop((∃ d, ⌜Collected m c (t.val + 1) d⌝ ∗ owns (c : Thread nD τ) scH fullShare d)
      ∗ owns (c : Thread nD τ) scS fullShare (sumS m c t.val t.isLt) ∗ owns (c : Thread nD τ) scQ fullShare (sumQ m c t.val t.isLt))
      ∗ (∃ r, prngReg c r)) := rfl

/-- The first sum is started at the first point. -/
theorem sumS_first (c : Dev nD) (t : Fin cfg0.N) (h : t.val = 0) : sumS m c t.val t.isLt = k0_pay4 (prod m c t) := by
  obtain ⟨n, hn⟩ := t; subst h; rfl

/-- The second sum is started at the first point. -/
theorem sumQ_first (c : Dev nD) (t : Fin cfg0.N) (h : t.val = 0) : sumQ m c t.val t.isLt = k0_pay5 (prod m c t) := by
  obtain ⟨n, hn⟩ := t; subst h; rfl

/-- The first sum is advanced at a later point. -/
theorem sumS_next (c : Dev nD) (t : Fin cfg0.N) (h : t.val ≠ 0) :
    sumS m c t.val t.isLt = k0_pay6 (prod m c t) (sumS m c (t.val - 1) (Nat.lt_of_le_of_lt (Nat.sub_le _ _) t.isLt)) := by
  obtain ⟨n, hn⟩ := t
  cases n with
  | zero => exact absurd rfl h
  | succ n => rfl

/-- The second sum is advanced at a later point. -/
theorem sumQ_next (c : Dev nD) (t : Fin cfg0.N) (h : t.val ≠ 0) :
    sumQ m c t.val t.isLt = k0_pay7 (prod m c t) (sumQ m c (t.val - 1) (Nat.lt_of_le_of_lt (Nat.sub_le _ _) t.isLt)) := by
  obtain ⟨n, hn⟩ := t
  cases n with
  | zero => exact absurd rfl h
  | succ n => rfl

end Cert.KernelIdeal.Body

end
-- ==== Proof.Ideal.Data.lean ====
/-
The proof data of the pipeline, with what the body finds and leaves in each window's memref.
-/
module

public import proofs.«01_k».proof.Proof.Ideal.Invariant

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: inputs stay at their blocks, the result window is left at `result`, and the scratch is described by `Inv`. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => result m c t
  Φ t := Inv m c t.val (Nat.le_of_lt_succ t.isLt)
  q _ := fullShare
  owed _ := 0

/-- The arrays are those the region finds. -/
theorem data_A (c : Dev nD) (w : Fin cfg0.W) : (data m 0 c).A w = V m c (Pipeline.arrRef spec0 w) := by
  dsimp only [data]

/-- The invariant at a point's start. -/
theorem data_inv (c : Dev nD) (t : Fin cfg0.N) : (data m 0 c).Φ t.castSucc = Inv m c t.val (Nat.le_of_lt t.isLt) := by
  dsimp only [data]; exact Pipeline.Dat.Φ_castSucc (Inv m c) t

/-- Window 0: left at its block, -/
theorem after0 (c : Dev nD) (t : Fin cfg0.N) : (data m 0 c).after 0 t = iblk m c 0 t := by dsimp only [data]
/-- found at its block, -/
theorem before0 (c : Dev nD) (t : Fin cfg0.N) (d) : (data m 0 c).before 0 t d = iblk m c 0 t :=
  before0_0_of m (data m 0 c) (data_A m c 0) (after0 m c) t d
/-- and handed back so. -/
theorem leaves0 (c : Dev nD) (t : Fin cfg0.N) :
    (data m 0 c).leavesExact 0 t = owns (c : Thread nD τ) (stg0 t) fullShare (iblk m c 0 t) := by
  unfold Dat.leavesExact; rw [show cfg0.idle 0 (grid0.coords t) = false from rfl, after0]
/-- Window 1: left at its block, -/
theorem after1 (c : Dev nD) (t : Fin cfg0.N) : (data m 0 c).after 1 t = iblk m c 1 t := by dsimp only [data]
/-- found at its block, -/
theorem before1 (c : Dev nD) (t : Fin cfg0.N) (d) : (data m 0 c).before 1 t d = iblk m c 1 t :=
  before0_1_of m (data m 0 c) (data_A m c 1) (after1 m c) t d
/-- and handed back so. -/
theorem leaves1 (c : Dev nD) (t : Fin cfg0.N) :
    (data m 0 c).leavesExact 1 t = owns (c : Thread nD τ) (stg1 t) fullShare (iblk m c 1 t) := by
  unfold Dat.leavesExact; rw [show cfg0.idle 1 (grid0.coords t) = false from rfl, after1]
/-- Window 2: left at its block, -/
theorem after2 (c : Dev nD) (t : Fin cfg0.N) : (data m 0 c).after 2 t = iblk m c 2 t := by dsimp only [data]
/-- found at its block, -/
theorem before2 (c : Dev nD) (t : Fin cfg0.N) (d) : (data m 0 c).before 2 t d = iblk m c 2 t :=
  before0_2_of m (data m 0 c) (data_A m c 2) (after2 m c) t d
/-- and handed back so. -/
theorem leaves2 (c : Dev nD) (t : Fin cfg0.N) :
    (data m 0 c).leavesExact 2 t = owns (c : Thread nD τ) (stg2 t) fullShare (iblk m c 2 t) := by
  unfold Dat.leavesExact; rw [show cfg0.idle 2 (grid0.coords t) = false from rfl, after2]
/-- Window 3: left at its block, -/
theorem after3 (c : Dev nD) (t : Fin cfg0.N) : (data m 0 c).after 3 t = iblk m c 3 t := by dsimp only [data]
/-- found at its block, -/
theorem before3 (c : Dev nD) (t : Fin cfg0.N) (d) : (data m 0 c).before 3 t d = iblk m c 3 t :=
  before0_3_of m (data m 0 c) (data_A m c 3) (after3 m c) t d
/-- and handed back so. -/
theorem leaves3 (c : Dev nD) (t : Fin cfg0.N) :
    (data m 0 c).leavesExact 3 t = owns (c : Thread nD τ) (stg3 t) fullShare (iblk m c 3 t) := by
  unfold Dat.leavesExact; rw [show cfg0.idle 3 (grid0.coords t) = false from rfl, after3]
/-- Window 4: left at its block, -/
theorem after4 (c : Dev nD) (t : Fin cfg0.N) : (data m 0 c).after 4 t = iblk m c 4 t := by dsimp only [data]
/-- found at its block, -/
theorem before4 (c : Dev nD) (t : Fin cfg0.N) (d) : (data m 0 c).before 4 t d = iblk m c 4 t :=
  before0_4_of m (data m 0 c) (data_A m c 4) (after4 m c) t d
/-- and handed back so. -/
theorem leaves4 (c : Dev nD) (t : Fin cfg0.N) :
    (data m 0 c).leavesExact 4 t = owns (c : Thread nD τ) (stg4 t) fullShare (iblk m c 4 t) := by
  unfold Dat.leavesExact; rw [show cfg0.idle 4 (grid0.coords t) = false from rfl, after4]
/-- Window 5: left at its block, -/
theorem after5 (c : Dev nD) (t : Fin cfg0.N) : (data m 0 c).after 5 t = iblk m c 5 t := by dsimp only [data]
/-- found at its block, -/
theorem before5 (c : Dev nD) (t : Fin cfg0.N) (d) : (data m 0 c).before 5 t d = iblk m c 5 t :=
  before0_5_of m (data m 0 c) (data_A m c 5) (after5 m c) t d
/-- and handed back so. -/
theorem leaves5 (c : Dev nD) (t : Fin cfg0.N) :
    (data m 0 c).leavesExact 5 t = owns (c : Thread nD τ) (stg5 t) fullShare (iblk m c 5 t) := by
  unfold Dat.leavesExact; rw [show cfg0.idle 5 (grid0.coords t) = false from rfl, after5]
/-- Window 6: left at its block, -/
theorem after6 (c : Dev nD) (t : Fin cfg0.N) : (data m 0 c).after 6 t = iblk m c 6 t := by dsimp only [data]
/-- found at its block, -/
theorem before6 (c : Dev nD) (t : Fin cfg0.N) (d) : (data m 0 c).before 6 t d = iblk m c 6 t :=
  before0_6_of m (data m 0 c) (data_A m c 6) (after6 m c) t d
/-- and handed back so. -/
theorem leaves6 (c : Dev nD) (t : Fin cfg0.N) :
    (data m 0 c).leavesExact 6 t = owns (c : Thread nD τ) (stg6 t) fullShare (iblk m c 6 t) := by
  unfold Dat.leavesExact; rw [show cfg0.idle 6 (grid0.coords t) = false from rfl, after6]
/-- Window 7: left at its block, -/
theorem after7 (c : Dev nD) (t : Fin cfg0.N) : (data m 0 c).after 7 t = iblk m c 7 t := by dsimp only [data]
/-- found at its block, -/
theorem before7 (c : Dev nD) (t : Fin cfg0.N) (d) : (data m 0 c).before 7 t d = iblk m c 7 t :=
  before0_7_of m (data m 0 c) (data_A m c 7) (after7 m c) t d
/-- and handed back so. -/
theorem leaves7 (c : Dev nD) (t : Fin cfg0.N) :
    (data m 0 c).leavesExact 7 t = owns (c : Thread nD τ) (stg7 t) fullShare (iblk m c 7 t) := by
  unfold Dat.leavesExact; rw [show cfg0.idle 7 (grid0.coords t) = false from rfl, after7]
/-- Window 8: left at its block, -/
theorem after8 (c : Dev nD) (t : Fin cfg0.N) : (data m 0 c).after 8 t = iblk m c 8 t := by dsimp only [data]
/-- found at its block, -/
theorem before8 (c : Dev nD) (t : Fin cfg0.N) (d) : (data m 0 c).before 8 t d = iblk m c 8 t :=
  before0_8_of m (data m 0 c) (data_A m c 8) (after8 m c) t d
/-- and handed back so. -/
theorem leaves8 (c : Dev nD) (t : Fin cfg0.N) :
    (data m 0 c).leavesExact 8 t = owns (c : Thread nD τ) (stg8 t) fullShare (iblk m c 8 t) := by
  unfold Dat.leavesExact; rw [show cfg0.idle 8 (grid0.coords t) = false from rfl, after8]
/-- Window 9: left at its block, -/
theorem after9 (c : Dev nD) (t : Fin cfg0.N) : (data m 0 c).after 9 t = iblk m c 9 t := by dsimp only [data]
/-- found at its block, -/
theorem before9 (c : Dev nD) (t : Fin cfg0.N) (d) : (data m 0 c).before 9 t d = iblk m c 9 t :=
  before0_9_of m (data m 0 c) (data_A m c 9) (after9 m c) t d
/-- and handed back so. -/
theorem leaves9 (c : Dev nD) (t : Fin cfg0.N) :
    (data m 0 c).leavesExact 9 t = owns (c : Thread nD τ) (stg9 t) fullShare (iblk m c 9 t) := by
  unfold Dat.leavesExact; rw [show cfg0.idle 9 (grid0.coords t) = false from rfl, after9]
/-- Window 10: left at its block, -/
theorem after10 (c : Dev nD) (t : Fin cfg0.N) : (data m 0 c).after 10 t = iblk m c 10 t := by dsimp only [data]
/-- found at its block, -/
theorem before10 (c : Dev nD) (t : Fin cfg0.N) (d) : (data m 0 c).before 10 t d = iblk m c 10 t :=
  before0_10_of m (data m 0 c) (data_A m c 10) (after10 m c) t d
/-- and handed back so. -/
theorem leaves10 (c : Dev nD) (t : Fin cfg0.N) :
    (data m 0 c).leavesExact 10 t = owns (c : Thread nD τ) (stg10 t) fullShare (iblk m c 10 t) := by
  unfold Dat.leavesExact; rw [show cfg0.idle 10 (grid0.coords t) = false from rfl, after10]
/-- The result window is left at `result`. -/
theorem after11 (c : Dev nD) (t : Fin cfg0.N) : (data m 0 c).after 11 t = result m c t := by dsimp only [data]

/-- Before the last point the result window is idle: -/
theorem idle_early (t : Fin cfg0.N) (h : ¬isLast (grid0.coords t)) : cfg0.idle 11 (grid0.coords t) = true := by
  show (!(k0_cond3 (grid0.coords t) == 1#1)) = true
  rw [Bool.not_eq_true', beq_eq_false_iff_ne]; exact h

/-- its memref is handed back as it was found. -/
theorem leaves_early (c : Dev nD) (t : Fin cfg0.N) (h : t.val ≠ 7) :
    (data m 0 c).leavesExact 11 t = iprop(∃ d, owns (c : Thread nD τ) (stg11 t) fullShare ((data m 0 c).before 11 t d)) := by
  have hf : (cfg0.win 11).flush t = false := by
    rw [Bool.eq_false_iff]
    intro hf
    have := (flush0_11 t).mp hf
    have := point_lt t
    omega
  exact Dat.leavesExact_idle (data m 0 c) 11 t (idle_early t fun hl => h ((isLast_iff t).mp hl)) hf

/-- At the last point it is left at `result`. -/
theorem leaves_last (c : Dev nD) (t : Fin cfg0.N) (h : t.val = 7) :
    (data m 0 c).leavesExact 11 t = owns (c : Thread nD τ) (stg11 t) fullShare (result m c t) := by
  have hi : cfg0.idle 11 (grid0.coords t) = false := by
    show (!(k0_cond3 (grid0.coords t) == 1#1)) = false
    rw [Bool.not_eq_false', beq_iff_eq]; exact (isLast_iff t).mpr h
  unfold Dat.leavesExact; rw [hi, after11]

end Cert.KernelIdeal.Body

end
-- ==== Proof.Ideal.RunFirst.lean ====
/-
The body at the first grid point: it stores its own products and starts both running sums.
-/
module

public import proofs.«01_k».proof.Proof.Ideal.Slice

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- At the first point, on whole memrefs holding the inputs: the slice of the products is stored and the two sums are started. -/
theorem bodyA (c : Dev nD) (i : grid0.Coords) (arg1 : Memref sig .tc .vmem S64x64 .f32) (harg1 : arg1.IsWhole) (arg2 : Memref sig .tc .vmem S8x2x64x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S64x2x128 .f32) (harg12 : arg12.IsWhole) (arg13 : Memref sig .tc .vmem S64x2x64x128 .f32) (harg13 : arg13.IsWhole) (arg14 : Memref sig .tc .vmem S1x128 .f32) (harg14 : arg14.IsWhole) (arg15 : Memref sig .tc .vmem S1x128 .f32) (harg15 : arg15.IsWhole)
    (hc0 : isFirst i) (hc1 : ¬isLater i) (hc2 : ¬isLast i)
    (x0 : Vec F S64x64 .f32) (x1 : Vec F S8x2x64x128 .f32) (x2 : Vec F S128x128 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (x11 : Vec F S64x2x128 .f32) (xs0 : Vec F S64x2x64x128 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xs0 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (putSlice i xs0 (k0_pay20 x0 x1 x2)) ∗ owns (c : Thread nD τ) arg14 fullShare (k0_pay4 (k0_pay20 x0 x1 x2)) ∗ owns (c : Thread nD τ) arg15 fullShare (k0_pay5 (k0_pay20 x0 x1 x2))) -∗ K ⟨⟩))
      ⊢ wp frame (wpE (defs₀ (F := F)) Variants.none c none) E (cc0__gnn_pipelined i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__gnn_pipelined_eq_skeleton]; unfold cc0__gnn_pipelined_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro; exact hf11
  isplitl [HS0]
  · iexists _; isplitr; swap; · iexact HS0
    ipureintro; rw [show bodyA.sl.r_2 c arg1 harg1 arg2 harg2 arg3 harg3 x0 x1 x2 = k0_pay20 x0 x1 x2 from load_products _ _ _ _ _ _ _ _ _]; exact read_put arg13 harg13 i xs0 _
  isplitl [HS1]
  · iexists _; isplitr; swap; · iexact HS1
    ipureintro; rw [show bodyA.sl.r_2 c arg1 harg1 arg2 harg2 arg3 harg3 x0 x1 x2 = k0_pay20 x0 x1 x2 from load_products _ _ _ _ _ _ _ _ _]; exact View.read_writes_full _ _ _ _ _
  iexists _; isplitr; swap; · iexact HS2
  ipureintro; rw [show bodyA.sl.r_2 c arg1 harg1 arg2 harg2 arg3 harg3 x0 x1 x2 = k0_pay20 x0 x1 x2 from load_products _ _ _ _ _ _ _ _ _]; exact View.read_writes_full _ _ _ _ _

end Cert.KernelIdeal.Body

end
-- ==== Proof.Ideal.RunMiddle.lean ====
/-
The body at a grid point that is neither first nor last: it stores its products and advances both running sums.
-/
module

public import proofs.«01_k».proof.Proof.Ideal.RunFirst

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- At a middle point: the slice of the products is stored and the two sums are advanced from what they held. -/
theorem bodyB (c : Dev nD) (i : grid0.Coords) (arg1 : Memref sig .tc .vmem S64x64 .f32) (harg1 : arg1.IsWhole) (arg2 : Memref sig .tc .vmem S8x2x64x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S64x2x128 .f32) (harg12 : arg12.IsWhole) (arg13 : Memref sig .tc .vmem S64x2x64x128 .f32) (harg13 : arg13.IsWhole) (arg14 : Memref sig .tc .vmem S1x128 .f32) (harg14 : arg14.IsWhole) (arg15 : Memref sig .tc .vmem S1x128 .f32) (harg15 : arg15.IsWhole)
    (hc0 : ¬isFirst i) (hc1 : isLater i) (hc2 : ¬isLast i)
    (x0 : Vec F S64x64 .f32) (x1 : Vec F S8x2x64x128 .f32) (x2 : Vec F S128x128 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (x11 : Vec F S64x2x128 .f32) (xs0 : Vec F S64x2x64x128 .f32) (xs1 xs2 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xs0 ∗ owns (c : Thread nD τ) arg14 fullShare xs1 ∗ owns (c : Thread nD τ) arg15 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (putSlice i xs0 (k0_pay20 x0 x1 x2)) ∗ owns (c : Thread nD τ) arg14 fullShare (k0_pay6 (k0_pay20 x0 x1 x2) xs1) ∗ owns (c : Thread nD τ) arg15 fullShare (k0_pay7 (k0_pay20 x0 x1 x2) xs2)) -∗ K ⟨⟩))
      ⊢ wp frame (wpE (defs₀ (F := F)) Variants.none c none) E (cc0__gnn_pipelined i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__gnn_pipelined_eq_skeleton]; unfold cc0__gnn_pipelined_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hfs0; obtain rfl := harg14.eq_unread hfs1; obtain rfl := harg15.eq_unread hfs2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro; exact hf11
  isplitl [HS0]
  · iexists _; isplitr; swap; · iexact HS0
    ipureintro; rw [show bodyB.sl.r_2 c arg1 harg1 arg2 harg2 arg3 harg3 x0 x1 x2 = k0_pay20 x0 x1 x2 from load_products _ _ _ _ _ _ _ _ _]; exact read_put arg13 harg13 i xs0 _
  isplitl [HS1]
  · iexists _; isplitr; swap; · iexact HS1
    ipureintro; rw [show bodyB.sl.r_2 c arg1 harg1 arg2 harg2 arg3 harg3 x0 x1 x2 = k0_pay20 x0 x1 x2 from load_products _ _ _ _ _ _ _ _ _]; exact (View.read_writes_full _ _ _ _ _).trans (congrArg (k0_pay6 _) (load_whole arg14 harg14 xs1 _))
  iexists _; isplitr; swap; · iexact HS2
  ipureintro; rw [show bodyB.sl.r_2 c arg1 harg1 arg2 harg2 arg3 harg3 x0 x1 x2 = k0_pay20 x0 x1 x2 from load_products _ _ _ _ _ _ _ _ _]; exact (View.read_writes_full _ _ _ _ _).trans (congrArg (k0_pay7 _) (load_whole arg15 harg15 xs2 _))

end Cert.KernelIdeal.Body

end
-- ==== Proof.Ideal.RunLast.lean ====
/-
The body at the last grid point: as at a middle point, and then the remaining layers and the pooled result.
-/
module

public import proofs.«01_k».proof.Proof.Ideal.RunMiddle

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- At the last point: the sums are advanced once more, then the result is computed from all the products and stored. -/
theorem bodyC (c : Dev nD) (i : grid0.Coords) (arg1 : Memref sig .tc .vmem S64x64 .f32) (harg1 : arg1.IsWhole) (arg2 : Memref sig .tc .vmem S8x2x64x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S64x2x128 .f32) (harg12 : arg12.IsWhole) (arg13 : Memref sig .tc .vmem S64x2x64x128 .f32) (harg13 : arg13.IsWhole) (arg14 : Memref sig .tc .vmem S1x128 .f32) (harg14 : arg14.IsWhole) (arg15 : Memref sig .tc .vmem S1x128 .f32) (harg15 : arg15.IsWhole)
    (hc0 : ¬isFirst i) (hc1 : isLater i) (hc2 : isLast i)
    (x0 : Vec F S64x64 .f32) (x1 : Vec F S8x2x64x128 .f32) (x2 : Vec F S128x128 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (xs0 : Vec F S64x2x64x128 .f32) (xs1 xs2 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xs0 ∗ owns (c : Thread nD τ) arg14 fullShare xs1 ∗ owns (c : Thread nD τ) arg15 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (lastOut x0 (putSlice i xs0 (k0_pay20 x0 x1 x2)) (k0_pay6 (k0_pay20 x0 x1 x2) xs1) (k0_pay7 (k0_pay20 x0 x1 x2) xs2) x5 x6 x3 x7 x8 x4 x9 x10) ∗ owns (c : Thread nD τ) arg13 fullShare (putSlice i xs0 (k0_pay20 x0 x1 x2)) ∗ owns (c : Thread nD τ) arg14 fullShare (k0_pay6 (k0_pay20 x0 x1 x2) xs1) ∗ owns (c : Thread nD τ) arg15 fullShare (k0_pay7 (k0_pay20 x0 x1 x2) xs2)) -∗ K ⟨⟩))
      ⊢ wp frame (wpE (defs₀ (F := F)) Variants.none c none) E (cc0__gnn_pipelined i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__gnn_pipelined_eq_skeleton]; unfold cc0__gnn_pipelined_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hfs0; obtain rfl := harg14.eq_unread hfs1; obtain rfl := harg15.eq_unread hfs2
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro;
    have hr : bodyC.sl.r_2 c arg1 harg1 arg2 harg2 arg3 harg3 x0 x1 x2 = k0_pay20 x0 x1 x2 := load_products _ _ _ _ _ _ _ _ _
    have eh : bodyC.sl.v62 c i arg1 harg1 arg2 harg2 arg3 harg3 arg13 harg13 x0 x1 x2 xs0 = putSlice i xs0 (k0_pay20 x0 x1 x2) := by
      unfold bodyC.sl.v62 bodyC.sl.HS0_1; rw [hr]
      exact (View.readAt_full _ _ _).trans (read_put arg13 harg13 i xs0 _)
    have es : bodyC.sl.v63 c arg1 harg1 arg2 harg2 arg3 harg3 arg14 harg14 x0 x1 x2 xs1 = k0_pay6 (k0_pay20 x0 x1 x2) xs1 := by
      unfold bodyC.sl.v63 bodyC.sl.HS1_1; rw [hr]
      exact (View.readCov_full _ _ _ _ _).trans (congrArg (k0_pay6 _) (load_whole arg14 harg14 xs1 _))
    have eq : bodyC.sl.v65 c arg1 harg1 arg2 harg2 arg3 harg3 arg15 harg15 x0 x1 x2 xs2 = k0_pay7 (k0_pay20 x0 x1 x2) xs2 := by
      unfold bodyC.sl.v65 bodyC.sl.HS2_1; rw [hr]
      exact (View.readCov_full _ _ _ _ _).trans (congrArg (k0_pay7 _) (load_whole arg15 harg15 xs2 _))
    refine (View.read_writes_full _ _ _ _ _).trans ?_
    unfold bodyC.sl.r_4 bodyC.sl.r_5 bodyC.sl.r_6 bodyC.sl.r_3 bodyC.sl.r_1 bodyC.sl.r
    rw [eh, es, eq]
    exact lastOut_congr (load_whole arg1 harg1 x0 _) rfl rfl rfl (load_whole arg6 harg6 x5 _) (load_whole arg7 harg7 x6 _)
      (load_whole arg4 harg4 x3 _) (load_whole arg8 harg8 x7 _) (load_whole arg9 harg9 x8 _) (load_whole arg5 harg5 x4 _)
      (load_whole arg10 harg10 x9 _) (load_whole arg11 harg11 x10 _)
  isplitl [HS0]
  · iexists _; isplitr; swap; · iexact HS0
    ipureintro; unfold bodyC.sl.HS0_1; rw [show bodyC.sl.r_2 c arg1 harg1 arg2 harg2 arg3 harg3 x0 x1 x2 = k0_pay20 x0 x1 x2 from load_products _ _ _ _ _ _ _ _ _]; exact read_put arg13 harg13 i xs0 _
  isplitl [HS1]
  · iexists _; isplitr; swap; · iexact HS1
    ipureintro; unfold bodyC.sl.HS1_1; rw [show bodyC.sl.r_2 c arg1 harg1 arg2 harg2 arg3 harg3 x0 x1 x2 = k0_pay20 x0 x1 x2 from load_products _ _ _ _ _ _ _ _ _]; exact (View.read_writes_full _ _ _ _ _).trans (congrArg (k0_pay6 _) (load_whole arg14 harg14 xs1 _))
  iexists _; isplitr; swap; · iexact HS2
  ipureintro; unfold bodyC.sl.HS2_1; rw [show bodyC.sl.r_2 c arg1 harg1 arg2 harg2 arg3 harg3 x0 x1 x2 = k0_pay20 x0 x1 x2 from load_products _ _ _ _ _ _ _ _ _]; exact (View.read_writes_full _ _ _ _ _).trans (congrArg (k0_pay7 _) (load_whole arg15 harg15 xs2 _))

end Cert.KernelIdeal.Body

end
-- ==== Proof.Ideal.Sound.lean ====
/-
The body obligation at every grid point, from the three body runs.
-/
module

public import proofs.«01_k».proof.Proof.Ideal.Data
public import proofs.«01_k».proof.Proof.Ideal.RunLast

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`. -/
def pre (c : Dev nD) (t : Fin cfg0.N) : sProp 𝕄 :=
  iprop((data m 0 c).Φ t.castSucc ∗ (data m 0 c).owesAt () t.castSucc
    ∗ (∃ d, owns (c : Thread nD τ) (stg0 t) fullShare ((data m 0 c).before 0 t d))
    ∗ (∃ d, owns (c : Thread nD τ) (stg1 t) fullShare ((data m 0 c).before 1 t d))
    ∗ (∃ d, owns (c : Thread nD τ) (stg2 t) fullShare ((data m 0 c).before 2 t d))
    ∗ (∃ d, owns (c : Thread nD τ) (stg3 t) fullShare ((data m 0 c).before 3 t d))
    ∗ (∃ d, owns (c : Thread nD τ) (stg4 t) fullShare ((data m 0 c).before 4 t d))
    ∗ (∃ d, owns (c : Thread nD τ) (stg5 t) fullShare ((data m 0 c).before 5 t d))
    ∗ (∃ d, owns (c : Thread nD τ) (stg6 t) fullShare ((data m 0 c).before 6 t d))
    ∗ (∃ d, owns (c : Thread nD τ) (stg7 t) fullShare ((data m 0 c).before 7 t d))
    ∗ (∃ d, owns (c : Thread nD τ) (stg8 t) fullShare ((data m 0 c).before 8 t d))
    ∗ (∃ d, owns (c : Thread nD τ) (stg9 t) fullShare ((data m 0 c).before 9 t d))
    ∗ (∃ d, owns (c : Thread nD τ) (stg10 t) fullShare ((data m 0 c).before 10 t d))
    ∗ (∃ d, owns (c : Thread nD τ) (stg11 t) fullShare ((data m 0 c).before 11 t d)))

/-- What it returns. -/
def post (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (data m 0 c).leavesExact 9 t
    ∗ (data m 0 c).leavesExact 10 t
    ∗ (data m 0 c).leavesExact 11 t)

set_option maxHeartbeats 4000000 in
/-- The body at the first point. -/
theorem soundFirst (c : Dev nD) (t : Fin cfg0.N) (h : t.val = 0) :
    pre m c t ⊢ wp frame (wpE (defs₀ (F := F)) Variants.none c none) Set.univ (bodyAt0 t) (fun _ => post m c t) := by
  unfold pre post bodyAt0
  simp only [before0, before1, before2, before3, before4, before5, before6, before7, before8, before9, before10]
  rw [leaves0, leaves1, leaves2, leaves3, leaves4, leaves5, leaves6, leaves7, leaves8, leaves9, leaves10]
  rw [leaves_early m c t (by omega)]
  rw [show (data m 0 c).owesAt () t.succ = (data m 0 c).owesAt () t.castSucc from rfl]
  rw [show (data m 0 c).Φ t.succ = Inv m c (t.val + 1) t.isLt from rfl, Inv_succ m c t]
  rw [data_inv m c t, Inv_zero m c _ _ h, classInv_eq, sumS_first m c t h, sumQ_first m c t h]
  iintro ⟨⟨⟨⟨%dh, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (bodyA c (grid0.coords t) _ _ _ _ _ _ _ _ _ _ _ _ _ _ _ _ _ _ _ _ _ _ _ _ _ _ _ _ _ _ ((isFirst_iff t).mpr h) (fun hl => absurd ((isLater_iff t).mp hl) (by omega)) (fun hl => absurd ((isLast_iff t).mp hl) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (((data m 0 c).before 11 t d11)) dh  Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, H7, H8, H9, H10, H11, HS0, HS1, HS2⟩
  have hput := collected_put m c t dh (by rw [h]; exact collected_zero m c dh)
  isplitl [HS0 HS1 HS2 Hg]
  · isplitl [HS0 HS1 HS2]
    · isplitl [HS0]
      · iexists _; isplitr; swap; · iexact HS0
        ipureintro; exact hput
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists d11; iexact H11

set_option maxHeartbeats 4000000 in
/-- The body at a middle point. -/
theorem soundMiddle (c : Dev nD) (t : Fin cfg0.N) (h0 : t.val ≠ 0) (h7 : t.val ≠ 7) :
    pre m c t ⊢ wp frame (wpE (defs₀ (F := F)) Variants.none c none) Set.univ (bodyAt0 t) (fun _ => post m c t) := by
  unfold pre post bodyAt0
  simp only [before0, before1, before2, before3, before4, before5, before6, before7, before8, before9, before10]
  rw [leaves0, leaves1, leaves2, leaves3, leaves4, leaves5, leaves6, leaves7, leaves8, leaves9, leaves10]
  rw [leaves_early m c t (by omega)]
  rw [show (data m 0 c).owesAt () t.succ = (data m 0 c).owesAt () t.castSucc from rfl]
  rw [show (data m 0 c).Φ t.succ = Inv m c (t.val + 1) t.isLt from rfl, Inv_succ m c t]
  have hz : t.val ≠ 0 := by omega
  rw [data_inv m c t, Inv_pos m c _ _ hz, sumS_next m c t hz, sumQ_next m c t hz]
  iintro ⟨⟨⟨⟨%dh, %hcol, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (bodyB c (grid0.coords t) _ _ _ _ _ _ _ _ _ _ _ _ _ _ _ _ _ _ _ _ _ _ _ _ _ _ _ _ _ _ (fun hl => absurd ((isFirst_iff t).mp hl) (by omega)) ((isLater_iff t).mpr (by omega)) (fun hl => absurd ((isLast_iff t).mp hl) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (((data m 0 c).before 11 t d11)) dh (sumS m c (t.val - 1) (Nat.lt_of_le_of_lt (Nat.sub_le _ _) t.isLt)) (sumQ m c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, H7, H8, H9, H10, H11, HS0, HS1, HS2⟩
  have hput := collected_put m c t dh hcol
  isplitl [HS0 HS1 HS2 Hg]
  · isplitl [HS0 HS1 HS2]
    · isplitl [HS0]
      · iexists _; isplitr; swap; · iexact HS0
        ipureintro; exact hput
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists d11; iexact H11

set_option maxHeartbeats 4000000 in
/-- The body at the last point. -/
theorem soundLast (c : Dev nD) (t : Fin cfg0.N) (h : t.val = 7) :
    pre m c t ⊢ wp frame (wpE (defs₀ (F := F)) Variants.none c none) Set.univ (bodyAt0 t) (fun _ => post m c t) := by
  unfold pre post bodyAt0
  simp only [before0, before1, before2, before3, before4, before5, before6, before7, before8, before9, before10]
  rw [leaves0, leaves1, leaves2, leaves3, leaves4, leaves5, leaves6, leaves7, leaves8, leaves9, leaves10]
  rw [leaves_last m c t h]
  rw [show (data m 0 c).owesAt () t.succ = (data m 0 c).owesAt () t.castSucc from rfl]
  rw [show (data m 0 c).Φ t.succ = Inv m c (t.val + 1) t.isLt from rfl, Inv_succ m c t]
  have hz : t.val ≠ 0 := by omega
  rw [data_inv m c t, Inv_pos m c _ _ hz, sumS_next m c t hz, sumQ_next m c t hz]
  iintro ⟨⟨⟨⟨%dh, %hcol, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (bodyC c (grid0.coords t) _ _ _ _ _ _ _ _ _ _ _ _ _ _ _ _ _ _ _ _ _ _ _ _ _ _ _ _ _ _ (fun hl => absurd ((isFirst_iff t).mp hl) (by omega)) ((isLater_iff t).mpr (by omega)) ((isLast_iff t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) dh (sumS m c (t.val - 1) (Nat.lt_of_le_of_lt (Nat.sub_le _ _) t.isLt)) (sumQ m c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  iintro ⟨H0, H1, H2, H3, H4, H5, H6, H7, H8, H9, H10, H11, HS0, HS1, HS2⟩
  have hput := collected_put m c t dh hcol
  have hall := collected_all m c _ (by omega) _ hput
  have hres : lastOut (iblk m c 0 t) (putSlice (grid0.coords t) dh (k0_pay20 (iblk m c 0 t) (iblk m c 1 t) (iblk m c 2 t)))
      (k0_pay6 (k0_pay20 (iblk m c 0 t) (iblk m c 1 t) (iblk m c 2 t)) (sumS m c (t.val - 1) (Nat.lt_of_le_of_lt (Nat.sub_le _ _) t.isLt)))
      (k0_pay7 (k0_pay20 (iblk m c 0 t) (iblk m c 1 t) (iblk m c 2 t)) (sumQ m c (t.val - 1) (Nat.lt_of_le_of_lt (Nat.sub_le _ _) t.isLt)))
      (iblk m c 5 t) (iblk m c 6 t) (iblk m c 3 t) (iblk m c 7 t) (iblk m c 8 t) (iblk m c 4 t) (iblk m c 9 t) (iblk m c 10 t)
      = result m c t :=
    lastOut_congr rfl hall (sumS_next m c t hz).symm (sumQ_next m c t hz).symm rfl rfl rfl rfl rfl rfl rfl rfl
  rw [hres]
  isplitl [HS0 HS1 HS2 Hg]
  · isplitl [HS0 HS1 HS2]
    · isplitl [HS0]
      · iexists _; isplitr; swap; · iexact HS0
        ipureintro; exact hput
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at any point. -/
theorem sound (c : Dev nD) (t : Fin cfg0.N) :
    pre m c t ⊢ wp frame (wpE (defs₀ (F := F)) Variants.none c none) Set.univ (bodyAt0 t) (fun _ => post m c t) := by
  by_cases h0 : t.val = 0
  · exact soundFirst m c t h0
  by_cases h7 : t.val = 7
  · exact soundLast m c t h7
  exact soundMiddle m c t h0 h7

end Cert.KernelIdeal.Body

end
-- ==== Proof.Ideal.Launch.lean ====
/-
The launch: every run of the kernel ends with the arguments unchanged and the result array at a named value.
-/
module

public import proofs.«01_k».proof.Proof.Ideal.Sound

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body table's row is the body. -/
theorem row_eq (t : Fin cfg0.N) : defs₀ (F := F) .tc cfg0.body (cfg0.bodyArgs t (cfg0.slots t)) = bodyAt0 t := by
  unfold defs₀; rw [Defs.onTc_tc]

/-- The library's body obligation. -/
theorem obligation (c : Dev nD) : BodyObligation (data (F := F) m 0 c) (defs₀ (F := F)) Variants.none () Set.univ := fun t => by
  rw [bigSep_W0, bigSep_W0, row_eq]
  exact triple_restated (sound m c t) rfl .rfl fun _ => .rfl

/-- What the launch hands over is the invariant at the start. -/
theorem inv_in (c : Dev nD) : Pipeline.ΦA spec0 c ⊢ (data m 0 c).Φ 0 := by
  rw [show (data m 0 c).Φ 0 = Inv m c 0 (Nat.zero_le _) from rfl, Inv_zero m c 0 _ rfl]

/-- After the last point the invariant gives it back, the scratch contents forgotten. -/
theorem inv_out (c : Dev nD) : (data m 0 c).Φ (Fin.last cfg0.N) ⊢ Pipeline.ΦA spec0 c := by
  have hN : cfg0.N = 8 := N_0
  rw [show (data m 0 c).Φ (Fin.last cfg0.N) = Inv m c (Fin.last cfg0.N).val (Nat.le_of_lt_succ (Fin.last cfg0.N).isLt) from rfl,
    Inv_pos m c _ _ (by rw [Fin.val_last]; omega), classInv_eq]
  iintro ⟨⟨⟨%d, -, HS0⟩, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every run ends, with the windowed arrays at the pipeline's final contents and every counter at zero. -/
theorem launched : θ_run defs (onTc (τ := τ) (main (F := F))) (s₀ m ρ)
    (fun r => Pipeline.FramePost cfgs (data m) 0 (V m) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hin := inv_in m) (hout := inv_out m)

end Cert.KernelIdeal.Body

end
-- ==== Proof.Ideal.Result.lean ====
/-
The kernel's frame, and the value its result array ends at.
-/
module

public import Idealize.ShloMosaic.Lib.Pipeline.ValueKit
public import proofs.«01_k».proof.Proof.Ideal.Launch

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The last grid point. -/
def lastPoint : Fin cfg0.N := ⟨7, by have : cfg0.N = 8 := N_0; omega⟩

/-- The result array ends at what the last point stored. -/
theorem final_result (c : Dev nD) : (data m 0 c).arrAt 11 cfg0.N = result m c lastPoint := by
  have hW : (cfg0.win 11).WholeAt lastPoint := by decide +kernel
  refine Dat.arrAt_eq_of_after_last (data m 0 c) 11 lastPoint hW (result m c lastPoint) (fun j => ?_)
  rw [after11]
  rfl

/-- The frame: every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (data m) (data_A m) ((θ_run defs _ _).mono (fun _ h => h.1) (launched m ρ)))
    ((θ_run defs _ _).mono (fun _ h => h.2) (launched m ρ))

/-- The value: every run ends with the result array at `result` of the last point, and the arguments unchanged. -/
theorem value : θ_run defs (onTc (τ := τ) (main (F := F))) ⟨m, fun _ => 0, ρ⟩ (fun r => ∀ c : Dev nD,
      r.2.mem ((c.tc : Thread nD τ).loc main_v0) = result m c lastPoint
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨h.1 c, h.2.1 c⟩)
    (θ_run_and (Q₁ := fun r => ∀ c : Dev nD, r.2.mem ((c.tc : Thread nD τ).loc main_v0) = result m c lastPoint)
      ((θ_run defs _ _).mono (fun _ h c => ((h.1 c).1 11).trans (final_result m c)) (launched m ρ)) (frame m ρ))

end Cert.KernelIdeal.Body

end
-- ==== Proof.Reference.Frame.lean ====
/- The reference's frame. -/
module

public import proofs.«01_k».proof.Proof.Gen.ReferenceIdeal.Run
public import Idealize.ShloMosaic.Lib.Quiescent

@[expose] public section

noncomputable section

namespace Cert.ReferenceIdeal.Frame

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Every run of the reference ends with the arguments unchanged; it has no counters, so they all read zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => (h c).2, sem_eq_zero_of_no_sems rfl r.2⟩) (Value.run m ρ)

end Cert.ReferenceIdeal.Frame

end
-- ==== Proof.Pre.Facts.lean ====
/- The shape relations the precondition's operations take. -/
module

public import proofs.«01_k».proof.Pre_full_graph
public import Idealize.ShloMosaic.Lib.Affine
public import Idealize.ShloMosaic.Lib.Decide

@[expose] public section

namespace Cert.Pre_full_graph

open Idealize.ShloMosaic

instance facts : Cert.Pre_full_graph.Facts where
  shapeCasts_S4096_S64x64 := by decide
  slices_S4096_S1_0 := by decide
  shapeCasts_S1_S_ := by decide
  bcast_S_S64x64 := by decide
  slices_S4096_S1_1 := by decide
  bcast_S_S128x64x128 := by decide
  bcast_S_S128x128 := by decide
  bcast_S_S128 := by decide
  slices_S2x4096_S1x4096_0_0 := by decide
  shapeCasts_S1x4096_S4096 := by decide
  slices_S2x4096_S1x4096_1_0 := by decide

end Cert.Pre_full_graph

end
-- ==== Proof.Network.Spec.lean ====
/- The network over the reals: three graph-convolution layers with batch normalization, then the mean over channels. -/
module

public import Mathlib.Analysis.SpecialFunctions.Pow.Real
public import Mathlib.Algebra.BigOperators.Field
public import Mathlib.Tactic.Ring
public import Mathlib.Tactic.FieldSimp
public import Mathlib.Tactic.Positivity
public import Mathlib.Tactic.Linarith
public import Mathlib.Tactic.NormNum

@[expose] public section

noncomputable section

namespace Cert.Network

open Finset

/-- Activations: graph, channel, feature. -/
abbrev Feat := Fin 128 → Fin 64 → Fin 128 → ℝ

/-- One value per feature. -/
abbrev Row := Fin 128 → ℝ

/-- A weight matrix. -/
abbrev Mat := Fin 128 → Fin 128 → ℝ

/-- The small number added to a variance. -/
def eps : ℝ := 10995116 / 2 ^ 40

theorem eps_pos : 0 < eps := by unfold eps; positivity

/-- The place of the edge from channel `i` to channel `j` in the list of a graph's edges. -/
def edge (i j : Fin 64) : Fin 4096 := finProdFinEquiv (i, j)

theorem edge_val (i j : Fin 64) : (edge i j).val = 64 * i.val + j.val := by
  show j.val + 64 * i.val = _
  omega

/-- A channel's weighted degree, from the weight `wd` of its own edge, the weight `wo` of the 63 others, and the self-loop. -/
def degree (wd wo : ℝ) : ℝ := wd + 63 * wo + 1

/-- The degree's power -1/2, or zero where the degree is not positive. -/
def invRoot (x : ℝ) : ℝ := if 0 < x then (Real.sqrt x)⁻¹ else 0

/-- The normalized weight of an edge between two channels. -/
def across (wd wo : ℝ) : ℝ := invRoot (degree wd wo) * wo * invRoot (degree wd wo)

/-- The normalized weight a channel keeps for itself. -/
def self (wd wo : ℝ) : ℝ := invRoot (degree wd wo) * (wd + 1) * invRoot (degree wd wo)

/-- Features times a weight matrix. -/
def dot (h : Feat) (W : Mat) : Feat := fun p n e => ∑ k, h p n k * W k e

/-- A channel's new value: `a` times every other channel's, `d` times its own. -/
def mix (a d : ℝ) (y : Feat) : Feat := fun p n e => a * (∑ i, y p i e) + (d - a) * y p n e

/-- A feature summed over all graphs and channels. -/
def total (y : Feat) : Row := fun e => ∑ p, ∑ n, y p n e

/-- The squares. -/
def square (y : Feat) : Feat := fun p n e => y p n e * y p n e

/-- A feature's mean. -/
def mean (y : Feat) : Row := fun e => total y e / 8192

/-- A feature's variance. -/
def variance (y : Feat) : Row := fun e => total (fun p n e => (y p n e - mean y e) * (y p n e - mean y e)) e / 8192

/-- Batch normalization and the rectifier. -/
def normalize (y : Feat) (g b : Row) : Feat :=
  fun p n e => max ((y p n e - mean y e) / Real.sqrt (variance y e + eps) * g e + b e) 0

/-- One layer. -/
def layer (a d : ℝ) (h : Feat) (W : Mat) (g b : Row) : Feat := normalize (mix a d (dot h W)) g b

theorem total_const (c : Row) (e : Fin 128) : total (fun _ _ e => c e) e = 8192 * c e := by
  simp only [total, sum_const, card_univ, Fintype.card_fin, nsmul_eq_mul]
  push_cast
  ring

/-- The mean of the squares less the square of the mean is the variance. -/
theorem variance_eq (y : Feat) (e : Fin 128) :
    total (square y) e * (1 / 8192) - total y e * (1 / 8192) * (total y e * (1 / 8192)) = variance y e := by
  have h : total (fun p n e => (y p n e - mean y e) * (y p n e - mean y e)) e
      = total (square y) e - 2 * mean y e * total y e + 8192 * (mean y e * mean y e) := by
    have hc := total_const (fun e => mean y e * mean y e) e
    simp only [total, square] at hc ⊢
    rw [← hc, mul_sum, ← sum_sub_distrib, ← sum_add_distrib]
    refine sum_congr rfl fun p _ => ?_
    rw [mul_sum, ← sum_sub_distrib, ← sum_add_distrib]
    exact sum_congr rfl fun n _ => by ring
  rw [variance, h, mean]
  ring

theorem variance_nonneg (y : Feat) (e : Fin 128) : 0 ≤ variance y e :=
  div_nonneg (sum_nonneg fun _ _ => sum_nonneg fun _ _ => mul_self_nonneg _) (by norm_num)

theorem variance_pos (y : Feat) (e : Fin 128) : 0 < variance y e + eps := add_pos_of_nonneg_of_pos (variance_nonneg y e) eps_pos

/-- Scaling a feature and its mean by one factor is scaling the centred feature. -/
theorem scale_centre (x m v g : ℝ) :
    x * ((Real.sqrt v)⁻¹ * g) - m * ((Real.sqrt v)⁻¹ * g) = (x - m) / Real.sqrt v * g := by
  rw [div_eq_mul_inv]
  ring

/-- The power -1/2 of a positive number is the inverse of its root. -/
theorem rpow_neg_half {x : ℝ} (h : 0 < x) : Real.rpow x (-1 / 2) = (Real.sqrt x)⁻¹ := by
  show x ^ (-1 / 2 : ℝ) = _
  rw [show (-1 / 2 : ℝ) = -(1 / 2) by norm_num, Real.rpow_neg h.le, ← Real.sqrt_eq_rpow]

/-- The weighted sum over all channels, one weight on the diagonal and one off it, is `mix`. -/
theorem mix_eq_sum (a d : ℝ) (y : Feat) (p : Fin 128) (n : Fin 64) (e : Fin 128) :
    ∑ i, y p i e * (if i = n then d else a) = mix a d y p n e := by
  have : ∀ i : Fin 64, y p i e * (if i = n then d else a) = a * y p i e + (if i = n then (d - a) * y p i e else 0) := by
    intro i
    split <;> ring
  rw [sum_congr rfl fun i _ => this i, sum_add_distrib, ← mul_sum, sum_ite_eq' univ n]
  simp [mix]

/-- A sum over channels of one value on the diagonal and one off it. -/
theorem sum_diag (a d : ℝ) (n : Fin 64) : (∑ i : Fin 64, if i = n then d else a) = d + 63 * a := by
  have : ∀ i : Fin 64, (if i = n then d else a) = a + (if i = n then d - a else 0) := by
    intro i
    split <;> ring
  rw [sum_congr rfl fun i _ => this i, sum_add_distrib, sum_ite_eq' univ n]
  simp
  ring

end Cert.Network

end
-- ==== Proof.Network.Lift.lean ====
/- Extended reals that are reals: sums, and the constants the two programs carry. -/
module

public import Idealize.ShloMosaic.Lib.Pointwise
public import Idealize.ShloMosaic.Lib.IdealHost
public import proofs.«01_k».proof.Proof.Network.Spec

@[expose] public section

noncomputable section

namespace Cert.Network

open Idealize.ShloMosaic

/-- A sum of reals, read among the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) := (EReal.coe_strictMono.monotone.map_max).symm

/-- Batch normalization and the rectifier, with an offset that may be infinite. -/
def normalizeExt (y : Feat) (g : Row) (b : Fin 128 → EReal) (p : Fin 128) (n : Fin 64) (e : Fin 128) : EReal :=
  max (((y p n e - mean y e) / Real.sqrt (variance y e + eps) * g e : ℝ) + b e) 0

/-- With a real offset it is the real normalization. -/
theorem normalizeExt_real (y : Feat) (g : Row) (b : Fin 128 → EReal) (B : Row) (h : ∀ e, b e = ((B e : ℝ) : EReal))
    (p : Fin 128) (n : Fin 64) (e : Fin 128) : normalizeExt y g b p n e = ((normalize y g B p n e : ℝ) : EReal) := by
  unfold normalizeExt normalize
  rw [h e, ← EReal.coe_add, ← EReal.coe_zero, coe_max]

/-- A real may be taken off an offset before it is added or after. -/
theorem shift_ext (x m : ℝ) (b : EReal) : (x : EReal) + (b - (m : EReal)) = ((x - m : ℝ) : EReal) + b := by
  rw [EReal.coe_sub, sub_eq_add_neg, sub_eq_add_neg, add_assoc, add_comm b]

theorem zero_eq : (0 : EReal) = ((0 : ℝ) : EReal) := rfl

theorem ofBits_eps : Ideal.ofBits .f32 0x3727C5AC#32 = ((eps : ℝ) : EReal) := by
  unfold eps
  simp [Ideal.ofBits, Ideal.ieee, -EReal.coe_mul]
  norm_num

theorem ofBits_inv_count : Ideal.ofBits .f32 0x39000000#32 = ((1 / 8192 : ℝ) : EReal) := by
  simp [Ideal.ofBits, Ideal.ieee, -EReal.coe_mul]
  norm_num

theorem ofBits_count : Ideal.ofBits .f32 0x46000000#32 = ((8192 : ℝ) : EReal) := by
  simp [Ideal.ofBits, Ideal.ieee, -EReal.coe_mul]
  norm_num

theorem ofBits_channels : Ideal.ofBits .f32 0x42800000#32 = ((64 : ℝ) : EReal) := by
  simp [Ideal.ofBits, Ideal.ieee, -EReal.coe_mul]
  norm_num

theorem ofBits_neg_half : Ideal.ofBits .f32 0xBF000000#32 = ((-1 / 2 : ℝ) : EReal) := by
  simp [Ideal.ofBits, Ideal.ieee, -EReal.coe_mul]
  norm_num

theorem ofBits_one : Ideal.ofBits .f32 0x3F800000#32 = ((1 : ℝ) : EReal) := Ideal.ofBits_one_f32

theorem rsqrt_pos {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg h.le.not_gt, if_neg h.ne']

/-- The inverse root where the argument is positive, and zero elsewhere. -/
theorem invRoot_eq (r : ℝ) : (if 0 < (r : EReal) then Ideal.rsqrt (r : EReal) else 0) = ((invRoot r : ℝ) : EReal) := by
  unfold invRoot
  by_cases h : 0 < r
  · rw [if_pos (EReal.coe_pos.mpr h), if_pos h, rsqrt_pos h]
  · rw [if_neg (fun hh => h (EReal.coe_pos.mp hh)), if_neg h, EReal.coe_zero]

/-- The word that says whether two channels are the same, read as a number. -/
theorem diag_eq (i j : Fin 64) :
    (FloatOps.sitofp (F := Ideal) .f32 (BitVec.setWidth 32 (IntOp.cmpi .eq (BitVec.ofNat 32 i.val) (BitVec.ofNat 32 j.val))) : EReal)
      = (((if i = j then 1 else 0 : ℝ)) : EReal) := by
  have h : BitVec.ofNat 32 i.val = BitVec.ofNat 32 j.val ↔ i = j := by
    rw [← BitVec.toNat_inj, BitVec.toNat_ofNat, BitVec.toNat_ofNat, Nat.mod_eq_of_lt (by omega), Nat.mod_eq_of_lt (by omega), Fin.val_inj]
  show (((BitVec.setWidth 32 (BitVec.ofBool (BitVec.ofNat 32 i.val == BitVec.ofNat 32 j.val))).toInt : ℝ) : EReal) = _
  by_cases e : i = j
  · rw [if_pos e, beq_iff_eq.mpr (h.mpr e)]
    rw [show (BitVec.setWidth 32 (BitVec.ofBool true)).toInt = 1 from by decide]
    norm_num
  · rw [if_neg e, beq_eq_false_iff_ne.mpr (fun hh => e (h.mp hh))]
    norm_num

end Cert.Network

end
-- ==== Proof.Network.Weights.lean ====
/- Edge weights among the extended reals: an infinite weight makes every degree infinite, and then every normalized weight is zero. -/
module

public import proofs.«01_k».proof.Proof.Network.Lift

@[expose] public section

noncomputable section

namespace Cert.Network

open Idealize.ShloMosaic

/-- An infinity. -/
def Infinite (v : EReal) : Prop := v = ⊤ ∨ v = ⊥

theorem infinite_add {v : EReal} (h : Infinite v) (w : EReal) : Infinite (v + w) := by
  rcases h with rfl | rfl
  · induction w using EReal.rec with
    | bot => exact Or.inr (EReal.add_bot _)
    | coe r => exact Or.inl (EReal.top_add_coe r)
    | top => exact Or.inl EReal.top_add_top
  · exact Or.inr (EReal.bot_add _)

/-- A sum with an infinite term is infinite. -/
theorem infinite_sum {ι : Type*} [Fintype ι] (f : ι → EReal) (i : ι) (h : Infinite (f i)) : Infinite (∑ k, f k) := by
  classical
  rw [← Finset.add_sum_erase Finset.univ f (Finset.mem_univ i)]
  exact infinite_add h _

/-- The real weights `wd` and `wo` stand for `vd` and `vo`: they are the same weights, or one of `vd` and `vo` is infinite and
the real weights have a degree that normalizes them to zero. -/
def Weigh (vd vo : EReal) (wd wo : ℝ) : Prop :=
  (vd = (wd : EReal) ∧ vo = (wo : EReal)) ∨ (invRoot (degree wd wo) = 0 ∧ (Infinite vd ∨ Infinite vo))

theorem infinite_or_real (v : EReal) : Infinite v ∨ ∃ r : ℝ, v = (r : EReal) := by
  induction v using EReal.rec with
  | bot => exact Or.inl (Or.inr rfl)
  | coe r => exact Or.inr ⟨r, rfl⟩
  | top => exact Or.inl (Or.inl rfl)

/-- Any two weights have real ones that stand for them. -/
theorem exists_weigh (vd vo : EReal) : ∃ wd wo : ℝ, Weigh vd vo wd wo := by
  have h0 : invRoot (degree (-1) 0) = 0 := by
    unfold invRoot degree
    norm_num
  rcases infinite_or_real vd with h | ⟨wd, hd⟩
  · exact ⟨-1, 0, Or.inr ⟨h0, Or.inl h⟩⟩
  rcases infinite_or_real vo with h | ⟨wo, ho⟩
  · exact ⟨-1, 0, Or.inr ⟨h0, Or.inr h⟩⟩
  exact ⟨wd, wo, Or.inl ⟨hd, ho⟩⟩

/-- A column that has an infinite weight on the diagonal or off it has an infinite sum. -/
theorem infinite_column {vd vo : EReal} (h : Infinite vd ∨ Infinite vo) (f : Fin 64 → EReal) (n : Fin 64)
    (hd : Infinite vd → Infinite (f n)) (ho : ∀ i, i ≠ n → Infinite vo → Infinite (f i)) : Infinite (∑ i, f i) := by
  rcases h with h | h
  · exact infinite_sum f n (hd h)
  · obtain ⟨i, hi⟩ := exists_ne n
    exact infinite_sum f i (ho i hi h)

/-- At an infinite degree the kernel's inverse root is zero. -/
theorem invRoot_infinite {v : EReal} (h : Infinite v) : (if 0 < v then Ideal.rsqrt v else 0) = 0 := by
  rcases h with rfl | rfl
  · rw [if_pos EReal.zero_lt_top]
    rfl
  · exact if_neg not_lt_bot

end Cert.Network

end
-- ==== Proof.Network.Inputs.lean ====
/- The network's inputs, and what it means for the argument arrays to hold them. -/
module

public import Idealize.ShloMosaic.Lib.Pointwise
public import proofs.«01_k».proof.Proof.Network.Weights

@[expose] public section

noncomputable section

namespace Cert.Network

open Idealize.ShloMosaic

/-- The network's inputs. They are real numbers, except the last offset; `wd` and `wo` stand for the two edge weights. -/
structure Inputs where
  x : Feat
  W1 : Mat
  W2 : Mat
  W3 : Mat
  g1 : Row
  b1 : Row
  g2 : Row
  b2 : Row
  g3 : Row
  b3 : Fin 128 → EReal
  wd : ℝ
  wo : ℝ

/-- The layer of these inputs' edge weights. -/
def Inputs.step (I : Inputs) (h : Feat) (W : Mat) (g b : Row) : Feat := layer (across I.wd I.wo) (self I.wd I.wo) h W g b

/-- The features after the first layer. -/
def Inputs.first (I : Inputs) : Feat := I.step I.x I.W1 I.g1 I.b1

/-- The features after the second layer. -/
def Inputs.second (I : Inputs) : Feat := I.step I.first I.W2 I.g2 I.b2

/-- The third layer's features before they are normalized. -/
def Inputs.third (I : Inputs) : Feat := mix (across I.wd I.wo) (self I.wd I.wo) (dot I.second I.W3)

/-- The network's output: the third layer's normalized features, averaged over the channels. -/
def Inputs.output (I : Inputs) (p e : Fin 128) : EReal := (∑ n, normalizeExt I.third I.g3 I.b3 p n e) * ((1 / 64 : ℝ) : EReal)

/-- The argument arrays hold these inputs, and the edges are all ordered pairs of channels in their order. -/
structure Reads (I : Inputs) (x : Vec Ideal (⟨3, ![128, 64, 128]⟩ : Shape) .f32)
    (W1 W2 W3 : Vec Ideal (⟨2, ![128, 128]⟩ : Shape) .f32) (g1 b1 g2 b2 g3 b3 : Vec Ideal (⟨1, ![128]⟩ : Shape) .f32)
    (ends : Vec Ideal (⟨2, ![2, 4096]⟩ : Shape) .i32) (ew : Vec Ideal (⟨1, ![4096]⟩ : Shape) .f32) : Prop where
  x : ∀ p n e, x (ix3 p n e) = ((I.x p n e : ℝ) : EReal)
  W1 : ∀ k e, W1 (ix2 k e) = ((I.W1 k e : ℝ) : EReal)
  W2 : ∀ k e, W2 (ix2 k e) = ((I.W2 k e : ℝ) : EReal)
  W3 : ∀ k e, W3 (ix2 k e) = ((I.W3 k e : ℝ) : EReal)
  g1 : ∀ e, g1 (ix1 e) = ((I.g1 e : ℝ) : EReal)
  b1 : ∀ e, b1 (ix1 e) = ((I.b1 e : ℝ) : EReal)
  g2 : ∀ e, g2 (ix1 e) = ((I.g2 e : ℝ) : EReal)
  b2 : ∀ e, b2 (ix1 e) = ((I.b2 e : ℝ) : EReal)
  g3 : ∀ e, g3 (ix1 e) = ((I.g3 e : ℝ) : EReal)
  b3 : ∀ e, b3 (ix1 e) = I.b3 e
  source : ∀ i j, ends (ix2 0 (edge i j)) = BitVec.ofNat 32 i.val
  target : ∀ i j, ends (ix2 1 (edge i j)) = BitVec.ofNat 32 j.val
  weight : ∃ vd vo, Weigh vd vo I.wd I.wo ∧ ∀ i j, ew (ix1 (edge i j)) = if i = j then vd else vo

end Cert.Network

end
-- ==== Proof.Ideal.Weights.lean ====
/- The two coefficients per channel the kernel computes from the edge weights. -/
module

public import proofs.«01_k».proof.Proof.Network.Weights
public import proofs.«01_k».proof.Proof.Ideal.Result

@[expose] public section

set_option maxRecDepth 16384

noncomputable section

namespace Cert.KernelIdeal.Body

open Idealize.ShloMosaic Idealize.ShloMosaic.TcCoe
open Cert.KernelIdeal Cert.KernelIdeal.Gen Cert.Network

/-- The edge weights: one from a channel to itself, one between two channels; `wd` and `wo` stand for them. -/
def EdgeWeights (v : Vec Ideal S64x64 .f32) (wd wo : ℝ) : Prop :=
  ∃ vd vo, Weigh vd vo wd wo ∧ ∀ i j : Fin 64, v (ix2 i j) = if i = j then vd else vo

/-- The identity matrix. -/
theorem pay14_apply (i j : Fin 64) : k0_pay14 (F := Ideal) (ix2 i j) = ((if i = j then 1 else 0 : ℝ) : EReal) := by
  rw [← diag_eq]
  pointwise [k0_pay14]

/-- The weights with the self-loops, summed down a column. -/
theorem column (v : Vec Ideal S64x64 .f32) (wd wo : ℝ) (hv : ∀ i j : Fin 64, v (ix2 i j) = if i = j then (wd : EReal) else (wo : EReal)) (j : Fin 64) :
    (∑ x : Fin 64, (v (ix2 x j) + ((if x = j then 1 else 0 : ℝ) : EReal))) = ((degree wd wo : ℝ) : EReal) := by
  have : ∀ x : Fin 64, v (ix2 x j) + ((if x = j then 1 else 0 : ℝ) : EReal) = ((if x = j then wd + 1 else wo : ℝ) : EReal) := by
    intro x
    rw [hv x j]
    split <;> simp
  rw [Finset.sum_congr rfl fun x _ => this x, coe_sum, sum_diag, degree]
  congr 1
  ring

/-- A degree's inverse root. -/
theorem root_column (v : Vec Ideal S64x64 .f32) (wd wo : ℝ) (hv : EdgeWeights v wd wo) (j : Fin 64) :
    (if 0 < ∑ x : Fin 64, (v (ix2 x j) + ((if x = j then 1 else 0 : ℝ) : EReal)) then
        Ideal.rsqrt (∑ x : Fin 64, (v (ix2 x j) + ((if x = j then 1 else 0 : ℝ) : EReal))) else 0)
      = ((invRoot (degree wd wo) : ℝ) : EReal) := by
  obtain ⟨vd, vo, hw, hv⟩ := hv
  rcases hw with ⟨rfl, rfl⟩ | ⟨h0, hi⟩
  · rw [column v wd wo hv, invRoot_eq]
  · rw [h0, EReal.coe_zero]
    refine invRoot_infinite (infinite_column hi _ j (fun h => infinite_add ?_ _) (fun i hij h => infinite_add ?_ _))
    · rw [hv, if_pos rfl]
      exact h
    · rw [hv, if_neg hij]
      exact h

/-- The normalized adjacency matrix. -/
theorem pay15_apply (v : Vec Ideal S64x64 .f32) (wd wo : ℝ) (hv : EdgeWeights v wd wo) (i j : Fin 64) :
    k0_pay15 v (ix2 i j) = ((if i = j then self wd wo else across wd wo : ℝ) : EReal) := by
  pointwise [k0_pay15, pay14_apply]
  rw [root_column v wd wo hv, root_column v wd wo hv]
  obtain ⟨vd, vo, hw, hv⟩ := hv
  unfold self across
  rcases hw with ⟨rfl, rfl⟩ | ⟨h0, hi⟩
  · rw [hv i j]
    split
    · simp only [← EReal.coe_add, ← EReal.coe_mul]
    · simp only [← EReal.coe_add, ← EReal.coe_mul]
      congr 1
      ring
  · simp [h0]

/-- Its diagonal, as the kernel takes it: a column's sum of the matrix masked by the identity. -/
theorem pay16_apply (v : Vec Ideal S64x64 .f32) (wd wo : ℝ) (hv : EdgeWeights v wd wo) (j : Fin 64) :
    k0_pay16 v (ix2 0 j) = ((self wd wo : ℝ) : EReal) := by
  pointwise [k0_pay16, pay14_apply]
  have : ∀ x : Fin 64, k0_pay15 v (ix2 x j) * ((if x = j then 1 else 0 : ℝ) : EReal) = ((if x = j then self wd wo else 0 : ℝ) : EReal) := by
    intro x
    rw [pay15_apply v wd wo hv, ← EReal.coe_mul]
    split <;> simp
  rw [Finset.sum_congr rfl fun x _ => this x, coe_sum, sum_diag]
  congr 1
  ring

/-- The mean of a column off the diagonal. -/
theorem pay17_apply (v : Vec Ideal S64x64 .f32) (wd wo : ℝ) (hv : EdgeWeights v wd wo) (j : Fin 64) :
    k0_pay17 v (ix2 0 j) = ((across wd wo : ℝ) : EReal) := by
  have hn : (Named.named κ "inv_offdiag" 0x3C820821#32 : Ideal .f32) = ((1 / 63 : ℝ) : EReal) :=
    IdealRules.named_const.ideal_named_scalar _ _ _ _ rfl
  pointwise [k0_pay17, pay16_apply v wd wo hv, pay15_apply v wd wo hv]
  rw [hn, coe_sum, sum_diag, ← EReal.coe_sub, ← EReal.coe_mul]
  congr 1
  ring

/-- The coefficient of the other channels' sum. -/
theorem pay18_apply (v : Vec Ideal S64x64 .f32) (wd wo : ℝ) (hv : EdgeWeights v wd wo) (n : Fin 64) :
    k0_pay18 v (ix4 0 0 n 0) = ((across wd wo : ℝ) : EReal) := by
  pointwise [k0_pay18, pay17_apply v wd wo hv]

/-- The coefficient of the channel itself. -/
theorem pay19_apply (v : Vec Ideal S64x64 .f32) (wd wo : ℝ) (hv : EdgeWeights v wd wo) (n : Fin 64) :
    k0_pay19 v (ix4 0 0 n 0) = ((self wd wo - across wd wo : ℝ) : EReal) := by
  pointwise [k0_pay19, pay17_apply v wd wo hv, pay16_apply v wd wo hv]
  rw [← EReal.coe_sub]

end Cert.KernelIdeal.Body

end
-- ==== Proof.Ideal.Sums.lean ====
/- The pairs of graphs the kernel works on, and its sums over graphs and channels. -/
module

public import proofs.«01_k».proof.Proof.Network.Lift
public import proofs.«01_k».proof.Proof.Ideal.Weights

@[expose] public section

set_option maxRecDepth 16384

noncomputable section

namespace Cert.KernelIdeal.Body

open Idealize.ShloMosaic Idealize.ShloMosaic.TcCoe
open Cert.KernelIdeal Cert.KernelIdeal.Gen Cert.Network

/-- The graph at place `b` of pair `a`. -/
def pair (a : Fin 64) (b : Fin 2) : Fin 128 := finProdFinEquiv (a, b)

/-- The pair at place `g` of the block at point `t`. -/
def join (t : Fin 8) (g : Fin 8) : Fin 64 := finProdFinEquiv (t, g)

theorem pair_val (a : Fin 64) (b : Fin 2) : (pair a b).val = 2 * a.val + b.val := by
  show b.val + 2 * a.val = _
  omega

theorem join_val (t : Fin 8) (g : Fin 8) : (join t g).val = 8 * t.val + g.val := by
  show g.val + 8 * t.val = _
  omega

theorem sum_pair {M : Type} [AddCommMonoid M] (f : Fin 128 → M) : ∑ a, ∑ b, f (pair a b) = ∑ p, f p := by
  rw [← Fintype.sum_prod_type' (fun a b => f (pair a b))]
  exact Equiv.sum_comp (finProdFinEquiv (m := 64) (n := 2)) f

theorem sum_join {M : Type} [AddCommMonoid M] (f : Fin 64 → M) : ∑ t, ∑ g, f (join t g) = ∑ a, f a := by
  rw [← Fintype.sum_prod_type' (fun t g => f (join t g))]
  exact Equiv.sum_comp (finProdFinEquiv (m := 8) (n := 8)) f

/-- An array of activations whose leading two axes run over the graphs `P`. -/
def IsAt {n : Nat} (P : Fin n → Fin 2 → Fin 128) (H : Feat) (h : Vec Ideal (⟨4, ![n, 2, 64, 128]⟩ : Shape) .f32) : Prop :=
  ∀ a b c e, h (ix4 a b c e) = ((H (P a b) c e : ℝ) : EReal)

/-- A vector of features. -/
def IsRow (r : Row) (v : Vec Ideal S128 .f32) : Prop := ∀ e, v (ix1 e) = ((r e : ℝ) : EReal)

/-- A vector of features, with a leading axis of one. -/
def IsRow1 (r : Row) (v : Vec Ideal S1x128 .f32) : Prop := ∀ e, v (ix2 0 e) = ((r e : ℝ) : EReal)

/-- A weight matrix. -/
def IsMat (W : Mat) (v : Vec Ideal S128x128 .f32) : Prop := ∀ k e, v (ix2 k e) = ((W k e : ℝ) : EReal)

/-- One value per channel. -/
def IsCoef (a : ℝ) (v : Vec Ideal S1x1x64x1 .f32) : Prop := ∀ n, v (ix4 0 0 n 0) = ((a : ℝ) : EReal)

/-- The sum over the first three of four axes, one term per coordinate triple. -/
theorem reduce_three {n : Nat} (h : (⟨4, ![n, 2, 64, 128]⟩ : Shape).Reduces [0, 1, 2] S128)
    (v : (⟨4, ![n, 2, 64, 128]⟩ : Shape).Idx → EReal) (e : Fin 128) :
    Ideal.reduceAdd h v (ix1 e) = ∑ a : Fin n, ∑ b : Fin 2, ∑ c : Fin 64, v (ix4 a b c e) := by
  have key : Ideal.reduceAdd h v (ix1 e) = ∑ k : Fin n × Fin 2 × Fin 64, v (ix4 k.1 k.2.1 k.2.2 e) := by
    refine Finset.sum_filter_eq_sum_of_fiber _ (fun k : Fin n × Fin 2 × Fin 64 => ix4 k.1 k.2.1 k.2.2 e) ?_ ?_ v
    · intro k l hk
      exact Prod.ext (congrFun hk 0) (Prod.ext (congrFun hk 1) (congrFun hk 2))
    · intro i
      constructor
      · intro hi
        refine ⟨(i 0, i 1, i 2), ?_⟩
        funext a
        match a with
        | ⟨0, _⟩ => rfl
        | ⟨1, _⟩ => rfl
        | ⟨2, _⟩ => rfl
        | ⟨3, _⟩ => exact Fin.ext (congrArg Fin.val (congrFun hi 0)).symm
      · rintro ⟨k, rfl⟩
        funext b
        match b with
        | ⟨0, _⟩ => rfl
  rw [key, Fintype.sum_prod_type]
  exact Finset.sum_congr rfl fun a _ => Fintype.sum_prod_type _

/-- The kernel's sum over graphs and channels. -/
theorem sum_three {n : Nat} (P : Fin n → Fin 2 → Fin 128) (H : Feat) (h : FVec Ideal (⟨4, ![n, 2, 64, 128]⟩ : Shape) .f32)
    (hh : IsAt P H h) (hr : (⟨4, ![n, 2, 64, 128]⟩ : Shape).Reduces [0, 1, 2] S128) (h1) (h2) (e : Fin 128) :
    multiReduction .add [0, 1, 2] S128 h 0x00000000#32 hr h1 h2 (ix1 e)
      = ((∑ a, ∑ b, ∑ c, H (P a b) c e : ℝ) : EReal) := by
  rw [multiReduction_add_apply]
  refine (congrArg _ ?_ : _ = _).trans ((reduce_three hr h e).trans ?_)
  · rfl
  simp only [hh _ _ _ _, coe_sum]

end Cert.KernelIdeal.Body

end
-- ==== Proof.Ideal.Layers.lean ====
/- The kernel's layer, read as mathematics. -/
module

public import proofs.«01_k».proof.Proof.Network.Lift
public import proofs.«01_k».proof.Proof.Ideal.Sums

@[expose] public section

set_option maxRecDepth 16384

noncomputable section

namespace Cert.KernelIdeal.Body

open Idealize.ShloMosaic Idealize.ShloMosaic.TcCoe
open Cert.KernelIdeal Cert.KernelIdeal.Gen Cert.Network

/-- The scale per feature. -/
def scaleT (s q : FVec Ideal S128 .f32) (g : FVec Ideal S1x128 .f32) : FVec Ideal S128 .f32 :=
  mulf (rsqrt (addf (subf (mulf q (broadcast S128 (Scalar.ofBits .f32 0x39000000#32)))
    (mulf (mulf s (broadcast S128 (Scalar.ofBits .f32 0x39000000#32))) (mulf s (broadcast S128 (Scalar.ofBits .f32 0x39000000#32)))))
    (broadcast S128 (Scalar.ofBits .f32 0x3727C5AC#32)))) (shapeCast S128 g shapeCasts_S1x128_S128)

/-- The shift per feature. -/
def shiftT (s q : FVec Ideal S128 .f32) (g b : FVec Ideal S1x128 .f32) : FVec Ideal S128 .f32 :=
  subf (shapeCast S128 b shapeCasts_S1x128_S128)
    (mulf (mulf s (broadcast S128 (Scalar.ofBits .f32 0x39000000#32))) (scaleT s q g))

/-- Scale, shift and rectifier. -/
def normalT (h : FVec Ideal S64x2x64x128 .f32) (s q : FVec Ideal S128 .f32) (g b : FVec Ideal S1x128 .f32) : FVec Ideal S64x2x64x128 .f32 :=
  maximumf (addf
    (mulf h (broadcastTo S64x2x64x128 (shapeCast S1x1x1x128 (scaleT s q g) shapeCasts_S128_S1x1x1x128) broadcasts_S1x1x1x128_S64x2x64x128))
    (broadcastTo S64x2x64x128 (shapeCast S1x1x1x128 (shiftT s q g b) shapeCasts_S128_S1x1x1x128) broadcasts_S1x1x1x128_S64x2x64x128))
    (broadcast S64x2x64x128 (Scalar.ofBits .f32 0x00000000#32))

/-- The product with a weight matrix, and the mix over channels. -/
def linearT (ar bc : FVec Ideal S1x1x64x1 .f32) (h : FVec Ideal S64x2x64x128 .f32) (W : FVec Ideal S128x128 .f32) : FVec Ideal S64x2x64x128 .f32 :=
  addf (mulf (broadcastTo S64x2x64x128 ar broadcasts_S1x1x64x1_S64x2x64x128)
    (broadcastTo S64x2x64x128 (shapeCast S64x2x1x128
      (multiReduction .add [2] S64x2x128 (matmul dot_S64x2x64x128_S128x128_S64x2x64x128_3_0_012_1_n_n none h W (constant S64x2x64x128 .f32 0x00000000#32))
        0x00000000#32 reduces_S64x2x64x128_S64x2x128 (.inl rfl) rfl) shapeCasts_S64x2x128_S64x2x1x128) broadcasts_S64x2x1x128_S64x2x64x128))
    (mulf (broadcastTo S64x2x64x128 bc broadcasts_S1x1x64x1_S64x2x64x128)
      (matmul dot_S64x2x64x128_S128x128_S64x2x64x128_3_0_012_1_n_n none h W (constant S64x2x64x128 .f32 0x00000000#32)))

/-- The sum over graphs and channels. -/
def sumT (h : FVec Ideal S64x2x64x128 .f32) : FVec Ideal S128 .f32 :=
  multiReduction .add [0, 1, 2] S128 h 0x00000000#32 reduces_S64x2x64x128_S128 (.inl rfl) rfl

/-- The mean over channels. -/
def averageT (h : FVec Ideal S64x2x64x128 .f32) : FVec Ideal S64x2x128 .f32 :=
  divf (multiReduction .add [2] S64x2x128 h 0x00000000#32 reduces_S64x2x64x128_S64x2x128 (.inl rfl) rfl)
    (broadcast S64x2x128 (Scalar.ofBits .f32 0x42800000#32))

theorem pay9_eq (ar bc h s q g b W) :
    k0_pay9 (F := Ideal) ar bc h s q g b W
      = linearT ar bc (normalT h (shapeCast S128 s shapeCasts_S1x128_S128) (shapeCast S128 q shapeCasts_S1x128_S128) g b) W := rfl

theorem pay10_eq (ar bc h g b W) :
    k0_pay10 (F := Ideal) ar bc h g b W = linearT ar bc (normalT h (sumT h) (sumT (mulf h h)) g b) W := rfl

theorem pool_eq (x0 h2 g2 b2 W3 g3 b3) :
    poolResult (F := Ideal) x0 h2 g2 b2 W3 g3 b3
      = averageT (normalT (k0_pay10 (k0_pay18 x0) (k0_pay19 x0) h2 g2 b2 W3) (sumT (k0_pay10 (k0_pay18 x0) (k0_pay19 x0) h2 g2 b2 W3))
          (sumT (mulf (k0_pay10 (k0_pay18 x0) (k0_pay19 x0) h2 g2 b2 W3) (k0_pay10 (k0_pay18 x0) (k0_pay19 x0) h2 g2 b2 W3))) g3 b3) := rfl

/-- The sum of activations over graphs and channels. -/
theorem sumT_total (H : Feat) (h : FVec Ideal S64x2x64x128 .f32) (hh : IsAt pair H h) : IsRow (total H) (sumT h) := by
  intro e
  refine (sum_three pair H h hh reduces_S64x2x64x128_S128 (.inl rfl) rfl e).trans ?_
  rw [sum_pair fun p => ∑ c, H p c e, total]

/-- The product of two arrays of activations. -/
theorem square_at {n : Nat} (P : Fin n → Fin 2 → Fin 128) (H : Feat) (h : FVec Ideal (⟨4, ![n, 2, 64, 128]⟩ : Shape) .f32) (hh : IsAt P H h) :
    IsAt P (square H) (mulf h h) := by
  intro a b c e
  show h (ix4 a b c e) * h (ix4 a b c e) = _
  rw [hh, ← EReal.coe_mul, square]

/-- The scale is one over the root of the variance, times the gain. -/
theorem scaleT_apply (y : Feat) (s q : FVec Ideal S128 .f32) (g : FVec Ideal S1x128 .f32) (G : Row)
    (hs : IsRow (total y) s) (hq : IsRow (total (square y)) q) (hg : IsRow1 G g) :
    IsRow (fun e => (Real.sqrt (variance y e + eps))⁻¹ * G e) (scaleT s q g) := by
  intro e
  pointwise [scaleT, hs e, hq e, hg e]
  rw [ofBits_inv_count, ofBits_eps]
  simp only [← EReal.coe_mul, ← EReal.coe_sub, ← EReal.coe_add]
  rw [variance_eq, rsqrt_pos (variance_pos y e), ← EReal.coe_mul]

theorem shiftT_apply (y : Feat) (s q : FVec Ideal S128 .f32) (g b : FVec Ideal S1x128 .f32) (G : Row) (B : Fin 128 → EReal)
    (hs : IsRow (total y) s) (hq : IsRow (total (square y)) q) (hg : IsRow1 G g) (hb : ∀ e, b (ix2 0 e) = B e) (e : Fin 128) :
    shiftT s q g b (ix1 e) = B e - ((mean y e * ((Real.sqrt (variance y e + eps))⁻¹ * G e) : ℝ) : EReal) := by
  pointwise [shiftT, hs e, hb e, scaleT_apply y s q g G hs hq hg e]
  rw [ofBits_inv_count]
  simp only [← EReal.coe_mul]
  rw [mean, mul_one_div]

/-- Scale, shift and rectifier are the batch normalization and the rectifier, whatever the offset. -/
theorem normalT_ext (y : Feat) (h : FVec Ideal S64x2x64x128 .f32) (s q : FVec Ideal S128 .f32) (g b : FVec Ideal S1x128 .f32) (G : Row)
    (B : Fin 128 → EReal) (hh : IsAt pair y h) (hs : IsRow (total y) s) (hq : IsRow (total (square y)) q) (hg : IsRow1 G g)
    (hb : ∀ e, b (ix2 0 e) = B e) (a : Fin 64) (c : Fin 2) (n : Fin 64) (e : Fin 128) :
    normalT h s q g b (ix4 a c n e) = normalizeExt y G B (pair a c) n e := by
  pointwise [normalT, hh a c n e, scaleT_apply y s q g G hs hq hg e, shiftT_apply y s q g b G B hs hq hg hb e]
  rw [← EReal.coe_mul, shift_ext, scale_centre]
  rfl

/-- With a real offset they are the real normalization. -/
theorem normalT_at (y : Feat) (h : FVec Ideal S64x2x64x128 .f32) (s q : FVec Ideal S128 .f32) (g b : FVec Ideal S1x128 .f32) (G B : Row)
    (hh : IsAt pair y h) (hs : IsRow (total y) s) (hq : IsRow (total (square y)) q) (hg : IsRow1 G g) (hb : IsRow1 B b) :
    IsAt pair (normalize y G B) (normalT h s q g b) := fun a c n e =>
  (normalT_ext y h s q g b G _ hh hs hq hg (fun _ => rfl) a c n e).trans (normalizeExt_real y G _ B hb _ n e)

/-- The product with a weight matrix and the mix over channels. -/
theorem linearT_at (ar bc : FVec Ideal S1x1x64x1 .f32) (α δ : ℝ) (H : Feat) (h : FVec Ideal S64x2x64x128 .f32) (M : Mat) (W : FVec Ideal S128x128 .f32)
    (ha : IsCoef α ar) (hd : IsCoef (δ - α) bc) (hh : IsAt pair H h) (hW : IsMat M W) :
    IsAt pair (mix α δ (dot H M)) (linearT ar bc h W) := by
  intro a c n e
  pointwise [linearT, ha n, hd n, hh _ _ _ _, hW _ _]
  simp only [← EReal.coe_mul, ← EReal.coe_add, coe_sum]
  rw [mix]
  rfl

/-- The mean over channels. -/
theorem averageT_apply {a : Fin 64} {c : Fin 2} {e : Fin 128} (f : Fin 64 → EReal) (h : FVec Ideal S64x2x64x128 .f32)
    (hh : ∀ n, h (ix4 a c n e) = f n) : averageT h (ix3 a c e) = (∑ n, f n) * ((1 / 64 : ℝ) : EReal) := by
  pointwise [averageT, hh]
  rw [ofBits_channels, Ideal.div_coe (by norm_num)]

end Cert.KernelIdeal.Body

end
-- ==== Proof.Ideal.Blocks.lean ====
/- The kernel's input blocks, read off its arguments. -/
module

public import proofs.«01_k».proof.Proof.Network.Lift
public import proofs.«01_k».proof.Proof.Ideal.Layers

@[expose] public section

set_option maxRecDepth 16384

noncomputable section

namespace Cert.KernelIdeal.Body

open Idealize.ShloMosaic Idealize.ShloMosaic.TcCoe
open Cert.KernelIdeal Cert.KernelIdeal.Gen Cert.Network

variable (m : (ℓ : Loc nD τ sig) → Buf (Elt Ideal) ℓ) (c : Dev nD)

theorem idx : ∀ t : Fin cfg0.N, win0_0.index t 0 = 0 ∧ win0_0.index t 1 = 0
    ∧ win0_1.index t 0 = t.val ∧ win0_1.index t 1 = 0 ∧ win0_1.index t 2 = 0 ∧ win0_1.index t 3 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0 ∧ win0_7.index t 0 = 0 ∧ win0_7.index t 1 = 0
    ∧ win0_8.index t 0 = 0 ∧ win0_8.index t 1 = 0 ∧ win0_9.index t 0 = 0 ∧ win0_9.index t 1 = 0
    ∧ win0_10.index t 0 = 0 ∧ win0_10.index t 1 = 0 := by
  decide +kernel

/-- Splitting the graphs into pairs. -/
theorem cast_pairs (v : Vec Ideal S128x64x128 .f32) (h : S128x64x128.ShapeCasts S64x2x64x128) (a : Fin 64) (s : Fin 2) (n : Fin 64) (e : Fin 128) :
    shapeCast S64x2x64x128 v h (ix4 a s n e) = v (ix3 (pair a s) n e) := by
  pointwise
  exact congrArg v (congrArg (fun p => ix3 p n e) (Fin.ext (show a.val * 2 + s.val = _ by rw [pair_val]; omega)))

theorem blk0 (t : Fin cfg0.N) (i j : Fin 64) :
    iblk m c 0 t (ix2 i j) = m ((c : Thread nD τ).loc main_arg11) (ix1 (edge i j)) := by
  blk_simp [iblk, idx t]
  entry_read
  refine (congrArg (shapeCast S64x64 (m ((c : Thread nD τ).loc main_arg11)) shapeCasts_S4096_S64x64)
    (show _ = ix2 i j from by blk_ext [idx t])).trans ?_
  pointwise
  exact congrArg _ (congrArg ix1 (Fin.ext (show i.val * 64 + j.val = _ by rw [edge_val]; omega)))

theorem blk1 (t : Fin cfg0.N) (g : Fin 8) (s : Fin 2) (n : Fin 64) (e : Fin 128) :
    iblk m c 1 t (ix4 g s n e) = m ((c : Thread nD τ).loc main_arg0) (ix3 (pair (join t g) s) n e) := by
  blk_simp [iblk, idx t]
  entry_read
  refine (congrArg (shapeCast S64x2x64x128 (m ((c : Thread nD τ).loc main_arg0)) shapeCasts_S128x64x128_S64x2x64x128)
    (show _ = ix4 (join t g) s n e from by
      blk_ext [idx t]
      have := join_val t g
      omega)).trans ?_
  exact cast_pairs _ _ _ _ _ _

theorem blk2 (t : Fin cfg0.N) (i j : Fin 128) :
    iblk m c 2 t (ix2 i j) = m ((c : Thread nD τ).loc main_arg1) (ix2 i j) := by
  blk_ext [iblk, V, idx t]

theorem blk3 (t : Fin cfg0.N) (i j : Fin 128) :
    iblk m c 3 t (ix2 i j) = m ((c : Thread nD τ).loc main_arg2) (ix2 i j) := by
  blk_ext [iblk, V, idx t]

theorem blk4 (t : Fin cfg0.N) (i j : Fin 128) :
    iblk m c 4 t (ix2 i j) = m ((c : Thread nD τ).loc main_arg3) (ix2 i j) := by
  blk_ext [iblk, V, idx t]

theorem blk5 (t : Fin cfg0.N) (j : Fin 128) :
    iblk m c 5 t (ix2 0 j) = m ((c : Thread nD τ).loc main_arg4) (ix1 j) := by
  blk_simp [iblk, idx t]
  entry_read
  refine (congrArg (shapeCast S1x128 (m ((c : Thread nD τ).loc main_arg4)) shapeCasts_S128_S1x128)
    (show _ = ix2 0 j from by blk_ext [idx t])).trans ?_
  pointwise

theorem blk6 (t : Fin cfg0.N) (j : Fin 128) :
    iblk m c 6 t (ix2 0 j) = m ((c : Thread nD τ).loc main_arg5) (ix1 j) := by
  blk_simp [iblk, idx t]
  entry_read
  refine (congrArg (shapeCast S1x128 (m ((c : Thread nD τ).loc main_arg5)) shapeCasts_S128_S1x128)
    (show _ = ix2 0 j from by blk_ext [idx t])).trans ?_
  pointwise

theorem blk7 (t : Fin cfg0.N) (j : Fin 128) :
    iblk m c 7 t (ix2 0 j) = m ((c : Thread nD τ).loc main_arg6) (ix1 j) := by
  blk_simp [iblk, idx t]
  entry_read
  refine (congrArg (shapeCast S1x128 (m ((c : Thread nD τ).loc main_arg6)) shapeCasts_S128_S1x128)
    (show _ = ix2 0 j from by blk_ext [idx t])).trans ?_
  pointwise

theorem blk8 (t : Fin cfg0.N) (j : Fin 128) :
    iblk m c 8 t (ix2 0 j) = m ((c : Thread nD τ).loc main_arg7) (ix1 j) := by
  blk_simp [iblk, idx t]
  entry_read
  refine (congrArg (shapeCast S1x128 (m ((c : Thread nD τ).loc main_arg7)) shapeCasts_S128_S1x128)
    (show _ = ix2 0 j from by blk_ext [idx t])).trans ?_
  pointwise

theorem blk9 (t : Fin cfg0.N) (j : Fin 128) :
    iblk m c 9 t (ix2 0 j) = m ((c : Thread nD τ).loc main_arg8) (ix1 j) := by
  blk_simp [iblk, idx t]
  entry_read
  refine (congrArg (shapeCast S1x128 (m ((c : Thread nD τ).loc main_arg8)) shapeCasts_S128_S1x128)
    (show _ = ix2 0 j from by blk_ext [idx t])).trans ?_
  pointwise

theorem blk10 (t : Fin cfg0.N) (j : Fin 128) :
    iblk m c 10 t (ix2 0 j) = m ((c : Thread nD τ).loc main_arg9) (ix1 j) := by
  blk_simp [iblk, idx t]
  entry_read
  refine (congrArg (shapeCast S1x128 (m ((c : Thread nD τ).loc main_arg9)) shapeCasts_S128_S1x128)
    (show _ = ix2 0 j from by blk_ext [idx t])).trans ?_
  pointwise

end Cert.KernelIdeal.Body

end
-- ==== Proof.Ideal.Value.lean ====
/- The kernel's result is the network's output. -/
module

public import proofs.«01_k».proof.Proof.Network.Inputs
public import proofs.«01_k».proof.Proof.Ideal.Blocks

@[expose] public section

set_option maxRecDepth 16384

noncomputable section

namespace Cert.KernelIdeal.Body

open Idealize.ShloMosaic Idealize.ShloMosaic.TcCoe
open Cert.KernelIdeal Cert.KernelIdeal.Gen Cert.Network

variable (m : (ℓ : Loc nD τ sig) → Buf (Elt Ideal) ℓ) (c : Dev nD)

/-- Device `c`'s arguments hold the inputs `I`. -/
def Holds (I : Inputs) : Prop :=
  Reads I (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

variable {m c} {I : Inputs} (H : Holds m c I)

include H

theorem weights_block (t : Fin cfg0.N) : EdgeWeights (iblk m c 0 t) I.wd I.wo :=
  let ⟨vd, vo, hw, hv⟩ := H.weight
  ⟨vd, vo, hw, fun i j => (blk0 m c t i j).trans (hv i j)⟩

theorem x_block (t : Fin cfg0.N) : IsAt (n := 8) (fun g => pair (join t g)) I.x (iblk m c 1 t) :=
  fun g s n e => (blk1 m c t g s n e).trans (H.x _ n e)

theorem W1_block (t : Fin cfg0.N) : IsMat I.W1 (iblk m c 2 t) := fun k e => (blk2 m c t k e).trans (H.W1 k e)
theorem W2_block (t : Fin cfg0.N) : IsMat I.W2 (iblk m c 3 t) := fun k e => (blk3 m c t k e).trans (H.W2 k e)
theorem W3_block (t : Fin cfg0.N) : IsMat I.W3 (iblk m c 4 t) := fun k e => (blk4 m c t k e).trans (H.W3 k e)
theorem g1_block (t : Fin cfg0.N) : IsRow1 I.g1 (iblk m c 5 t) := fun e => (blk5 m c t e).trans (H.g1 e)
theorem b1_block (t : Fin cfg0.N) : IsRow1 I.b1 (iblk m c 6 t) := fun e => (blk6 m c t e).trans (H.b1 e)
theorem g2_block (t : Fin cfg0.N) : IsRow1 I.g2 (iblk m c 7 t) := fun e => (blk7 m c t e).trans (H.g2 e)
theorem b2_block (t : Fin cfg0.N) : IsRow1 I.b2 (iblk m c 8 t) := fun e => (blk8 m c t e).trans (H.b2 e)
theorem g3_block (t : Fin cfg0.N) : IsRow1 I.g3 (iblk m c 9 t) := fun e => (blk9 m c t e).trans (H.g3 e)
theorem b3_block (t : Fin cfg0.N) : ∀ e, iblk m c 10 t (ix2 0 e) = I.b3 e := fun e => (blk10 m c t e).trans (H.b3 e)

omit H in
/-- The first layer's products over one block. -/
theorem pay20_at (P : Fin 8 → Fin 2 → Fin 128) (X : Feat) (M : Mat) (wd wo : ℝ) (w : FVec Ideal S64x64 .f32)
    (x : FVec Ideal S8x2x64x128 .f32) (W : FVec Ideal S128x128 .f32) (hw : EdgeWeights w wd wo) (hx : IsAt P X x) (hW : IsMat M W) :
    IsAt P (mix (across wd wo) (self wd wo) (dot X M)) (k0_pay20 (F := Ideal) w x W) := by
  have ha := pay18_apply w wd wo hw
  have hd := pay19_apply w wd wo hw
  unfold k0_pay20
  generalize k0_pay18 (F := Ideal) w = ar at ha ⊢
  generalize k0_pay19 (F := Ideal) w = bc at hd ⊢
  intro g s n e
  pointwise [ha n, hd n, hx _ _ _ _, hW _ _]
  simp only [← EReal.coe_mul, ← EReal.coe_add, coe_sum]
  rw [mix]
  rfl

/-- The first layer's mixed products. -/
def mixed1 (I : Inputs) : Feat := mix (across I.wd I.wo) (self I.wd I.wo) (dot I.x I.W1)

theorem prod_at (t : Fin cfg0.N) : IsAt (fun g => pair (join t g)) (mixed1 I) (prod m c t) :=
  pay20_at _ I.x I.W1 I.wd I.wo _ _ _ (weights_block H t) (x_block H t) (W1_block H t)

/-- All blocks' products together. -/
theorem allProds_at : IsAt pair (mixed1 I) (allProds m c) := by
  intro a s n e
  have hj : pair (join (pointOf (ix4 a s n e)) ⟨a.val % 8, Nat.mod_lt _ (by decide)⟩) s = pair a s :=
    congrArg (fun p => pair p s) (Fin.ext ((join_val _ _).trans (Nat.div_add_mod a.val 8)))
  have hw : within (ix4 a s n e) = ix4 ⟨a.val % 8, Nat.mod_lt _ (by decide)⟩ s n e := by
    funext b
    match b with
    | ⟨0, _⟩ => rfl
    | ⟨1, _⟩ => rfl
    | ⟨2, _⟩ => rfl
    | ⟨3, _⟩ => rfl
  rw [← hj]
  unfold allProds
  rw [hw]
  exact prod_at H (pointOf (ix4 a s n e)) ⟨a.val % 8, Nat.mod_lt _ (by decide)⟩ s n e

omit H in
/-- A block's sum over graphs and channels. -/
def blockSum (Y : Feat) (t : ℕ) (e : Fin 128) : ℝ :=
  if h : t < 8 then ∑ g, ∑ s, ∑ n, Y (pair (join ⟨t, h⟩ g) s) n e else 0

omit H in
theorem sum_blocks (Y : Feat) (e : Fin 128) : ∑ t ∈ Finset.range 8, blockSum Y t e = total Y e := by
  rw [Finset.sum_range]
  have : ∀ t : Fin 8, blockSum Y t.val e = ∑ g, ∑ s, ∑ n, Y (pair (join t g) s) n e := fun t => dif_pos t.isLt
  rw [Finset.sum_congr rfl fun t _ => this t, sum_join fun a => ∑ s, ∑ n, Y (pair a s) n e, sum_pair fun p => ∑ n, Y p n e, total]

omit H in
theorem pay2_apply (t : Fin 8) (Y : Feat) (h : FVec Ideal S8x2x64x128 .f32) (hh : IsAt (fun g => pair (join t g)) Y h) :
    IsRow1 (blockSum Y t.val) (k0_pay2 h) := by
  intro e
  unfold k0_pay2
  rw [blockSum, dif_pos t.isLt]
  refine Eq.trans ?_ (sum_three _ Y h hh reduces_S8x2x64x128_S128 (.inl rfl) rfl e)
  generalize multiReduction .add [0, 1, 2] S128 h 0x00000000#32 reduces_S8x2x64x128_S128 (.inl rfl) rfl = v
  pointwise

omit H in
theorem pay3_apply (t : Fin 8) (Y : Feat) (h : FVec Ideal S8x2x64x128 .f32) (hh : IsAt (fun g => pair (join t g)) Y h) :
    IsRow1 (blockSum (square Y) t.val) (k0_pay3 h) :=
  pay2_apply t (square Y) (mulf h h) (square_at _ Y h hh)

/-- The running sum after point `n`. -/
theorem sumS_row : ∀ (n : ℕ) (h : n < cfg0.N), IsRow1 (fun e => ∑ t ∈ Finset.range (n + 1), blockSum (mixed1 I) t e) (sumS m c n h)
  | 0, h => fun e => by
    show _ = ((∑ t ∈ Finset.range 1, _ : ℝ) : EReal)
    rw [Finset.sum_range_one]
    have hp := pay2_apply ⟨0, h⟩ _ _ (prod_at H ⟨0, h⟩) e
    rw [sumS]
    refine Eq.trans ?_ hp
    generalize prod m c ⟨0, h⟩ = y
    pointwise [k0_pay4]
  | n + 1, h => fun e => by
    show _ = ((∑ t ∈ Finset.range (n + 1 + 1), _ : ℝ) : EReal)
    rw [Finset.sum_range_succ, EReal.coe_add, ← sumS_row n (Nat.lt_of_succ_lt h) e, ← pay2_apply ⟨n + 1, h⟩ _ _ (prod_at H ⟨n + 1, h⟩) e]
    rw [sumS]
    pointwise [k0_pay6]

/-- The running sum of squares after point `n`. -/
theorem sumQ_row : ∀ (n : ℕ) (h : n < cfg0.N), IsRow1 (fun e => ∑ t ∈ Finset.range (n + 1), blockSum (square (mixed1 I)) t e) (sumQ m c n h)
  | 0, h => fun e => by
    show _ = ((∑ t ∈ Finset.range 1, _ : ℝ) : EReal)
    rw [Finset.sum_range_one]
    have hp := pay3_apply ⟨0, h⟩ _ _ (prod_at H ⟨0, h⟩) e
    rw [sumQ]
    refine Eq.trans ?_ hp
    generalize prod m c ⟨0, h⟩ = y
    pointwise [k0_pay5]
  | n + 1, h => fun e => by
    show _ = ((∑ t ∈ Finset.range (n + 1 + 1), _ : ℝ) : EReal)
    rw [Finset.sum_range_succ, EReal.coe_add, ← sumQ_row n (Nat.lt_of_succ_lt h) e, ← pay3_apply ⟨n + 1, h⟩ _ _ (prod_at H ⟨n + 1, h⟩) e]
    rw [sumQ]
    pointwise [k0_pay7]

omit H in
theorem row_of_row1 (r : Row) (v : FVec Ideal S1x128 .f32) (hv : IsRow1 r v) : IsRow r (shapeCast S128 v shapeCasts_S1x128_S128) := by
  intro e
  rw [← hv e]
  pointwise

/-- The second layer's mixed products. -/
def mixed2 (I : Inputs) : Feat := mix (across I.wd I.wo) (self I.wd I.wo) (dot I.first I.W2)

theorem second_at (t : Fin cfg0.N) (ht : t.val = 7) :
    IsAt pair (mixed2 I) (secondProducts (iblk m c 0 t) (allProds m c) (sumS m c t.val t.isLt) (sumQ m c t.val t.isLt)
      (iblk m c 5 t) (iblk m c 6 t) (iblk m c 3 t)) := by
  have hs := sumS_row H t.val t.isLt
  have hq := sumQ_row H t.val t.isLt
  simp only [ht, Nat.reduceAdd, sum_blocks] at hs hq
  unfold secondProducts
  rw [pay9_eq]
  refine linearT_at _ _ _ _ I.first _ _ _ (pay18_apply _ _ _ (weights_block H t)) (pay19_apply _ _ _ (weights_block H t)) ?_ (W2_block H t)
  exact normalT_at (mixed1 I) _ _ _ _ _ _ _ (allProds_at H) (row_of_row1 _ _ hs) (row_of_row1 _ _ hq) (g1_block H t) (b1_block H t)

/-- The kernel's result. -/
theorem result_apply (a : Fin 64) (s : Fin 2) (e : Fin 128) :
    result m c lastPoint (ix3 a s e) = I.output (pair a s) e := by
  unfold result lastOut
  have h2 := second_at H lastPoint rfl
  generalize secondProducts (F := Ideal) _ _ _ _ _ _ _ = y2 at h2 ⊢
  rw [pool_eq]
  have h3 : IsAt pair I.third (k0_pay10 (k0_pay18 (iblk m c 0 lastPoint)) (k0_pay19 (iblk m c 0 lastPoint)) y2
      (iblk m c 7 lastPoint) (iblk m c 8 lastPoint) (iblk m c 4 lastPoint)) := by
    rw [pay10_eq]
    refine linearT_at _ _ _ _ I.second _ _ _ (pay18_apply _ _ _ (weights_block H _)) (pay19_apply _ _ _ (weights_block H _)) ?_ (W3_block H _)
    exact normalT_at (mixed2 I) _ _ _ _ _ _ _ h2 (sumT_total _ _ h2) (sumT_total _ _ (square_at _ _ _ h2)) (g2_block H _) (b2_block H _)
  generalize k0_pay10 (F := Ideal) _ _ _ _ _ _ = y3 at h3 ⊢
  exact averageT_apply _ _ (fun n => normalT_ext I.third _ _ _ _ _ _ _ h3 (sumT_total _ _ h3) (sumT_total _ _ (square_at _ _ _ h3))
    (g3_block H _) (b3_block H _) a s n e)

end Cert.KernelIdeal.Body

end
-- ==== Proof.Pre.Read.lean ====
/- What the precondition says of the arguments: real floats where it asks for them, the complete graph's edges, one weight on the diagonal and one off it. -/
module

public import proofs.«01_k».proof.Proof.Pre.Facts
public import proofs.«01_k».proof.Proof.Network.Inputs
public import proofs.«01_k».proof.Proof.Network.Weights
public import Idealize.ShloMosaic.Lib.Pointwise

@[expose] public section

set_option maxRecDepth 16384

noncomputable section

namespace Cert.Pre_full_graph

open Idealize.ShloMosaic Cert.Network
open Facts

/-- A value between the infinities is a real number. -/
theorem real_of (v : EReal)
    (h : IntOp.andi (FloatOps.cmpf (F := Ideal) (φ := .f32) .ogt v (Ideal.ofBits .f32 0xFF800000#32)) (FloatOps.cmpf (F := Ideal) (φ := .f32) .olt v (Ideal.ofBits .f32 0x7F800000#32)) = 1#1) :
    v = ((v.toReal : ℝ) : EReal) := by
  refine (EReal.coe_toReal ?_ ?_).symm
  · rintro rfl
    revert h
    simp [Ideal.ofBits, Ideal.ieee, FloatOps.cmpf, Ideal.cmp]
    decide
  · rintro rfl
    revert h
    simp [Ideal.ofBits, Ideal.ieee, FloatOps.cmpf, Ideal.cmp]
    decide

/-- Equal words, from the comparison's bit. -/
theorem eq_of_bit {w : Nat} (x y : BitVec w) (h : IntOp.cmpi .eq x y = 1#1) : x = y := by
  by_contra hn
  revert h
  show ¬ BitVec.ofBool (x == y) = 1#1
  rw [beq_false_of_ne hn]
  decide

/-- Equal values, from the comparison's bit. -/
theorem eq_of_oeq (x y : EReal) (h : FloatOps.cmpf (F := Ideal) (φ := .f32) .oeq x y = 1#1) : x = y := by
  by_contra hn
  revert h
  simp [FloatOps.cmpf, Ideal.cmp, hn]

variable [Facts]

theorem grid_at {α : Type} (v : S4096.Idx → α) (i j : Fin 64) :
    shapeCast S64x64 v shapeCasts_S4096_S64x64 (ix2 i j) = v (ix1 (edge i j)) := by
  pointwise []
  refine congrArg (fun k => v (ix1 k)) (Fin.ext ?_)
  show i.val * 64 + j.val = (edge i j).val
  rw [edge_val]
  omega

theorem source_row {α : Type} (v : S2x4096.Idx → α) (k : Fin 4096) :
    shapeCast S4096 (extractStridedSlice S1x4096 ![0, 0] v slices_S2x4096_S1x4096_0_0) shapeCasts_S1x4096_S4096 (ix1 k) = v (ix2 0 k) := by
  pointwise []

theorem target_row {α : Type} (v : S2x4096.Idx → α) (k : Fin 4096) :
    shapeCast S4096 (extractStridedSlice S1x4096 ![1, 0] v slices_S2x4096_S1x4096_1_0) shapeCasts_S1x4096_S4096 (ix1 k) = v (ix2 1 k) := by
  pointwise []

theorem first_weight {α : Type} (v : S4096.Idx → α) (i j : Fin 64) :
    broadcastInDim S64x64 ![] bcast_S_S64x64 (shapeCast S_ (extractStridedSlice S1 ![0] v slices_S4096_S1_0) shapeCasts_S1_S_) (ix2 i j) = v (ix1 0) := by
  pointwise []

theorem second_weight {α : Type} (v : S4096.Idx → α) (i j : Fin 64) :
    broadcastInDim S64x64 ![] bcast_S_S64x64 (shapeCast S_ (extractStridedSlice S1 ![1] v slices_S4096_S1_1) shapeCasts_S1_S_) (ix2 i j) = v (ix1 1) := by
  pointwise []

/-- What the precondition's twelve bits say. -/
structure Bits (x : FVec Ideal S128x64x128 .f32) (W1 W2 W3 : FVec Ideal S128x128 .f32) (g1 b1 g2 b2 g3 b3 : FVec Ideal S128 .f32)
    (ends : IVec S2x4096 32) (ew : FVec Ideal S4096 .f32) : Prop where
  x_bit : (fn (F := Ideal) x W1 W2 W3 g1 b1 g2 b2 g3 b3 ends ew).1 = fun _ => 1#1
  W1_bit : (fn (F := Ideal) x W1 W2 W3 g1 b1 g2 b2 g3 b3 ends ew).2.1 = fun _ => 1#1
  W2_bit : (fn (F := Ideal) x W1 W2 W3 g1 b1 g2 b2 g3 b3 ends ew).2.2.1 = fun _ => 1#1
  W3_bit : (fn (F := Ideal) x W1 W2 W3 g1 b1 g2 b2 g3 b3 ends ew).2.2.2.1 = fun _ => 1#1
  g1_bit : (fn (F := Ideal) x W1 W2 W3 g1 b1 g2 b2 g3 b3 ends ew).2.2.2.2.1 = fun _ => 1#1
  b1_bit : (fn (F := Ideal) x W1 W2 W3 g1 b1 g2 b2 g3 b3 ends ew).2.2.2.2.2.1 = fun _ => 1#1
  g2_bit : (fn (F := Ideal) x W1 W2 W3 g1 b1 g2 b2 g3 b3 ends ew).2.2.2.2.2.2.1 = fun _ => 1#1
  b2_bit : (fn (F := Ideal) x W1 W2 W3 g1 b1 g2 b2 g3 b3 ends ew).2.2.2.2.2.2.2.1 = fun _ => 1#1
  g3_bit : (fn (F := Ideal) x W1 W2 W3 g1 b1 g2 b2 g3 b3 ends ew).2.2.2.2.2.2.2.2.1 = fun _ => 1#1
  source_bit : (fn (F := Ideal) x W1 W2 W3 g1 b1 g2 b2 g3 b3 ends ew).2.2.2.2.2.2.2.2.2.1 = fun _ => 1#1
  target_bit : (fn (F := Ideal) x W1 W2 W3 g1 b1 g2 b2 g3 b3 ends ew).2.2.2.2.2.2.2.2.2.2.1 = fun _ => 1#1
  weight_bit : (fn (F := Ideal) x W1 W2 W3 g1 b1 g2 b2 g3 b3 ends ew).2.2.2.2.2.2.2.2.2.2.2 = fun _ => 1#1

variable {x : FVec Ideal S128x64x128 .f32} {W1 W2 W3 : FVec Ideal S128x128 .f32} {g1 b1 g2 b2 g3 b3 : FVec Ideal S128 .f32}
  {ends : IVec S2x4096 32} {ew : FVec Ideal S4096 .f32}

/-- The inputs the arguments hold, with the weights that stand for the edge weights. -/
def inputs (x : FVec Ideal S128x64x128 .f32) (W1 W2 W3 : FVec Ideal S128x128 .f32) (g1 b1 g2 b2 g3 b3 : FVec Ideal S128 .f32)
    (wd wo : ℝ) : Inputs where
  x p n e := EReal.toReal (x (ix3 p n e))
  W1 k e := EReal.toReal (W1 (ix2 k e))
  W2 k e := EReal.toReal (W2 (ix2 k e))
  W3 k e := EReal.toReal (W3 (ix2 k e))
  g1 e := EReal.toReal (g1 (ix1 e))
  b1 e := EReal.toReal (b1 (ix1 e))
  g2 e := EReal.toReal (g2 (ix1 e))
  b2 e := EReal.toReal (b2 (ix1 e))
  g3 e := EReal.toReal (g3 (ix1 e))
  b3 e := b3 (ix1 e)
  wd := wd
  wo := wo

theorem source_of (B : Bits x W1 W2 W3 g1 b1 g2 b2 g3 b3 ends ew) (i j : Fin 64) : ends (ix2 0 (edge i j)) = BitVec.ofNat 32 i.val := by
  refine Eq.trans ?_ (eq_of_bit _ _ (congrFun B.source_bit (ix2 i j)))
  exact ((grid_at _ i j).trans (source_row ends (edge i j))).symm

theorem target_of (B : Bits x W1 W2 W3 g1 b1 g2 b2 g3 b3 ends ew) (i j : Fin 64) : ends (ix2 1 (edge i j)) = BitVec.ofNat 32 j.val := by
  refine Eq.trans ?_ (eq_of_bit _ _ (congrFun B.target_bit (ix2 i j)))
  exact ((grid_at _ i j).trans (target_row ends (edge i j))).symm

/-- Two channels' words agree as the channels do. -/
theorem same_word (i j : Fin 64) : (IntOp.cmpi .eq (BitVec.ofNat 32 i.val) (BitVec.ofNat 32 j.val)) = if i = j then 1#1 else 0#1 := by
  have hi := i.isLt
  have hj := j.isLt
  show BitVec.ofBool (_ == _) = _
  by_cases h : i = j
  · subst h
    rw [if_pos rfl, beq_self_eq_true]
    rfl
  · rw [if_neg h, beq_false_of_ne]
    · rfl
    · intro hc
      refine h (Fin.ext ?_)
      have := congrArg BitVec.toNat hc
      rw [BitVec.toNat_ofNat, BitVec.toNat_ofNat] at this
      omega

theorem weight_of (B : Bits x W1 W2 W3 g1 b1 g2 b2 g3 b3 ends ew) (i j : Fin 64) :
    ew (ix1 (edge i j)) = if i = j then ew (ix1 0) else ew (ix1 1) := by
  refine (grid_at ew i j).symm.trans ((eq_of_oeq _ _ (congrFun B.weight_bit (ix2 i j))).trans ?_)
  show Scalar.select (IntOp.cmpi .eq (BitVec.ofNat 32 i.val) (BitVec.ofNat 32 j.val)) _ _ = _
  rw [same_word, first_weight, second_weight]
  by_cases h : i = j
  · rw [if_pos h, if_pos h]
    rfl
  · rw [if_neg h, if_neg h]
    rfl

/-- Under the precondition the arguments hold the inputs. -/
theorem reads (B : Bits x W1 W2 W3 g1 b1 g2 b2 g3 b3 ends ew) {wd wo : ℝ} (hw : Weigh (ew (ix1 0)) (ew (ix1 1)) wd wo) :
    Reads (inputs x W1 W2 W3 g1 b1 g2 b2 g3 b3 wd wo) x W1 W2 W3 g1 b1 g2 b2 g3 b3 ends ew where
  x p n e := real_of _ (congrFun B.x_bit (ix3 p n e))
  W1 k e := real_of _ (congrFun B.W1_bit (ix2 k e))
  W2 k e := real_of _ (congrFun B.W2_bit (ix2 k e))
  W3 k e := real_of _ (congrFun B.W3_bit (ix2 k e))
  g1 e := real_of _ (congrFun B.g1_bit (ix1 e))
  b1 e := real_of _ (congrFun B.b1_bit (ix1 e))
  g2 e := real_of _ (congrFun B.g2_bit (ix1 e))
  b2 e := real_of _ (congrFun B.b2_bit (ix1 e))
  g3 e := real_of _ (congrFun B.g3_bit (ix1 e))
  b3 e := rfl
  source := source_of B
  target := target_of B
  weight := ⟨_, _, hw, weight_of B⟩

end Cert.Pre_full_graph

end
-- ==== Proof.Network.Scatter.lean ====
/- A host scatter that adds rows, or numbers, at the places given by a column of index words, read at one element. -/
module

public import Idealize.ShloMosaic.Lib.Pointwise
public import Idealize.ShloMosaic.Lib.Routing.OpsPair

@[expose] public section

noncomputable section

namespace Cert.Network

open Idealize.ShloMosaic

variable {N B n : Nat}

/-- Row `k` of the updates lands, column by column, in the row its index word names. -/
theorem row_lands (d : ScatterDims (⟨2, ![N, B]⟩ : Shape) (⟨2, ![n, 1]⟩ : Shape) (⟨2, ![n, B]⟩ : Shape))
    (hu : d.updateWindowDims = [1]) (hi : d.insertedWindowDims = [0]) (hs : d.scatterDimsToOperandDims = [0]) (hv : d.indexVectorDim = 1)
    (idx : IVec (⟨2, ![n, 1]⟩ : Shape) 32) (k : Fin n) (e : Fin B) (r : Fin N) (f : Fin B) :
    d.resultIdx? (ix2 k e) idx = some (ix2 r f) ↔ (idx (ix2 k 0)).toInt = (r.val : Int) ∧ e = f := by
  have hstart0 : d.start (ix2 k e) idx 0 = (idx (ix2 k 0)).toInt := by
    obtain ⟨uw, iw, sd, iv, wf⟩ := d
    dsimp only at hu hi hs hv
    subst hu hi hs hv
    unfold ScatterDims.start
    rw [dif_pos (List.mem_singleton.mpr rfl)]
    refine congrArg (fun z => (idx z).toInt) ?_
    funext b
    match b with
    | ⟨0, _⟩ => rfl
    | ⟨1, _⟩ => rfl
  have hstart1 : d.start (ix2 k e) idx 1 = 0 := by
    unfold ScatterDims.start
    rw [dif_neg (by rw [hs]; exact fun h => Nat.one_ne_zero (congrArg Fin.val (List.mem_singleton.mp h)))]
  have hwin0 : d.window (ix2 k e) 0 = 0 := by
    obtain ⟨uw, iw, sd, iv, wf⟩ := d
    dsimp only at hu hi hs hv
    subst hu hi hs hv
    rfl
  have hwin1 : d.window (ix2 k e) 1 = e.val := by
    obtain ⟨uw, iw, sd, iv, wf⟩ := d
    dsimp only at hu hi hs hv
    subst hu hi hs hv
    rfl
  refine (Routing.resultIdx?_ix2 d (ix2 k e) idx r f).trans ?_
  rw [hstart0, hstart1, hwin0, hwin1, Fin.ext_iff]
  omega

/-- Number `k` of the updates lands at the place its index word names. -/
theorem number_lands (d : ScatterDims (⟨1, ![N]⟩ : Shape) (⟨2, ![n, 1]⟩ : Shape) (⟨1, ![n]⟩ : Shape))
    (hu : d.updateWindowDims = []) (hi : d.insertedWindowDims = [0]) (hs : d.scatterDimsToOperandDims = [0]) (hv : d.indexVectorDim = 1)
    (idx : IVec (⟨2, ![n, 1]⟩ : Shape) 32) (k : Fin n) (r : Fin N) :
    d.resultIdx? (ix1 k) idx = some (ix1 r) ↔ (idx (ix2 k 0)).toInt = (r.val : Int) := by
  have hstart0 : d.start (ix1 k) idx 0 = (idx (ix2 k 0)).toInt := by
    obtain ⟨uw, iw, sd, iv, wf⟩ := d
    dsimp only at hu hi hs hv
    subst hu hi hs hv
    unfold ScatterDims.start
    rw [dif_pos (List.mem_singleton.mpr rfl)]
    refine congrArg (fun z => (idx z).toInt) ?_
    funext b
    match b with
    | ⟨0, _⟩ => rfl
    | ⟨1, _⟩ => rfl
  have hwin0 : d.window (ix1 k) 0 = 0 := by
    obtain ⟨uw, iw, sd, iv, wf⟩ := d
    dsimp only at hu hi hs hv
    subst hu hi hs hv
    rfl
  refine (Routing.resultIdx?_ix1 d (ix1 k) idx r).trans ?_
  rw [hstart0, hwin0]
  omega

/-- Rows added: an element is the operand's plus the updates of its column whose index word names its row. -/
theorem scatter_rows (d : ScatterDims (⟨2, ![N, B]⟩ : Shape) (⟨2, ![n, 1]⟩ : Shape) (⟨2, ![n, B]⟩ : Shape))
    (hu : d.updateWindowDims = [1]) (hi : d.insertedWindowDims = [0]) (hs : d.scatterDimsToOperandDims = [0]) (hv : d.indexVectorDim = 1)
    (x : FVec Ideal (⟨2, ![N, B]⟩ : Shape) .f32) (idx : IVec (⟨2, ![n, 1]⟩ : Shape) 32) (upd : FVec Ideal (⟨2, ![n, B]⟩ : Shape) .f32)
    (r : Fin N) (f : Fin B) :
    Host.scatterAdd d x idx upd (ix2 r f)
      = (x (ix2 r f) + ∑ k ∈ Finset.univ.filter (fun k : Fin n => (idx (ix2 k 0)).toInt = (r.val : Int)), upd (ix2 k f) : EReal) := by
  refine congrArg ((x (ix2 r f) : EReal) + ·) ?_
  refine Finset.sum_bij' (fun j _ => (j 0 : Fin n)) (fun k _ => ix2 k f) ?_ ?_ ?_ ?_ ?_
  · intro j hj
    have h := (row_lands d hu hi hs hv idx (j 0) (j 1) r f).mp ((congrArg (fun t => d.resultIdx? t idx) (eq_ix2 j).symm).trans (Finset.mem_filter.mp hj).2)
    exact Finset.mem_filter.mpr ⟨Finset.mem_univ _, h.1⟩
  · intro k hk
    exact Finset.mem_filter.mpr ⟨Finset.mem_univ _, (row_lands d hu hi hs hv idx k f r f).mpr ⟨(Finset.mem_filter.mp hk).2, rfl⟩⟩
  · intro j hj
    have h := (row_lands d hu hi hs hv idx (j 0) (j 1) r f).mp ((congrArg (fun t => d.resultIdx? t idx) (eq_ix2 j).symm).trans (Finset.mem_filter.mp hj).2)
    exact (congrArg (ix2 (j 0)) h.2.symm).trans (eq_ix2 j).symm
  · intro k _
    rfl
  · intro j hj
    have h := (row_lands d hu hi hs hv idx (j 0) (j 1) r f).mp ((congrArg (fun t => d.resultIdx? t idx) (eq_ix2 j).symm).trans (Finset.mem_filter.mp hj).2)
    exact congrArg upd ((eq_ix2 j).trans (congrArg (ix2 (j 0)) h.2))

/-- Numbers added: an element is the operand's plus the updates whose index word names it. -/
theorem scatter_numbers (d : ScatterDims (⟨1, ![N]⟩ : Shape) (⟨2, ![n, 1]⟩ : Shape) (⟨1, ![n]⟩ : Shape))
    (hu : d.updateWindowDims = []) (hi : d.insertedWindowDims = [0]) (hs : d.scatterDimsToOperandDims = [0]) (hv : d.indexVectorDim = 1)
    (x : FVec Ideal (⟨1, ![N]⟩ : Shape) .f32) (idx : IVec (⟨2, ![n, 1]⟩ : Shape) 32) (upd : FVec Ideal (⟨1, ![n]⟩ : Shape) .f32) (r : Fin N) :
    Host.scatterAdd d x idx upd (ix1 r)
      = (x (ix1 r) + ∑ k ∈ Finset.univ.filter (fun k : Fin n => (idx (ix2 k 0)).toInt = (r.val : Int)), upd (ix1 k) : EReal) := by
  refine congrArg ((x (ix1 r) : EReal) + ·) ?_
  refine Finset.sum_bij' (fun j _ => (j 0 : Fin n)) (fun k _ => ix1 k) ?_ ?_ ?_ ?_ ?_
  · intro j hj
    exact Finset.mem_filter.mpr ⟨Finset.mem_univ _, (number_lands d hu hi hs hv idx (j 0) r).mp
      ((congrArg (fun t => d.resultIdx? t idx) (eq_ix1 j).symm).trans (Finset.mem_filter.mp hj).2)⟩
  · intro k hk
    exact Finset.mem_filter.mpr ⟨Finset.mem_univ _, (number_lands d hu hi hs hv idx k r).mpr (Finset.mem_filter.mp hk).2⟩
  · intro j _
    exact (eq_ix1 j).symm
  · intro k _
    rfl
  · intro j _
    exact congrArg upd (eq_ix1 j)

end Cert.Network

end
-- ==== Proof.Network.Edges.lean ====
/- The nodes and edges of the batch of graphs, and sums over them. -/
module

public import Idealize.ShloMosaic.Lib.Pointwise
public import proofs.«01_k».proof.Proof.Network.Spec

@[expose] public section

noncomputable section

namespace Cert.Network

open Finset

/-- Channel `n` of graph `p`, among all nodes. -/
def node (p : Fin 128) (n : Fin 64) : Fin 8192 := finProdFinEquiv (p, n)

theorem node_val (p : Fin 128) (n : Fin 64) : (node p n).val = 64 * p.val + n.val := by
  show n.val + 64 * p.val = _
  omega

theorem node_inj (p q : Fin 128) (n k : Fin 64) : (node p n).val = (node q k).val ↔ p = q ∧ n = k := by
  rw [Fin.val_inj]
  exact (finProdFinEquiv (m := 128) (n := 64)).injective.eq_iff.trans Prod.mk_inj

/-- The edge from channel `i` to channel `j` of graph `p`, among the edges between channels. -/
def between (p : Fin 128) (i j : Fin 64) : Fin 524288 := finProdFinEquiv (p, edge i j)

theorem between_val (p : Fin 128) (i j : Fin 64) : (between p i j).val = 4096 * p.val + (edge i j).val := by
  show (edge i j).val + 4096 * p.val = _
  omega

/-- The same edge, among all edges. -/
def edgeAt (p : Fin 128) (i j : Fin 64) : Fin 532480 := Fin.castAdd 8192 (between p i j)

theorem edgeAt_val (p : Fin 128) (i j : Fin 64) : (edgeAt p i j).val = (between p i j).val := rfl

/-- The self-loop of channel `n` of graph `p`, among all edges. -/
def loopAt (p : Fin 128) (n : Fin 64) : Fin 532480 := Fin.natAdd 524288 (node p n)

theorem loopAt_val (p : Fin 128) (n : Fin 64) : (loopAt p n).val = 524288 + (node p n).val := rfl

variable {M : Type} [AddCommMonoid M]

theorem sum_node (f : Fin 8192 → M) : ∑ p, ∑ n, f (node p n) = ∑ r, f r := by
  rw [← Fintype.sum_prod_type' (fun p n => f (node p n))]
  exact Equiv.sum_comp (finProdFinEquiv (m := 128) (n := 64)) f

theorem sum_between (f : Fin 524288 → M) : ∑ p, ∑ i, ∑ j, f (between p i j) = ∑ k, f k := by
  have h : ∀ p : Fin 128, ∑ i, ∑ j, f (between p i j) = ∑ k : Fin 4096, f (finProdFinEquiv (p, k)) := fun p => by
    rw [← Fintype.sum_prod_type' (fun i j => f (between p i j))]
    exact Equiv.sum_comp (finProdFinEquiv (m := 64) (n := 64)) fun k : Fin 4096 => f (finProdFinEquiv (p, k))
  rw [sum_congr rfl fun p _ => h p, ← Fintype.sum_prod_type' (fun (p : Fin 128) (k : Fin 4096) => f (finProdFinEquiv (p, k)))]
  exact Equiv.sum_comp (finProdFinEquiv (m := 128) (n := 4096)) f

/-- A sum over all edges: the edges between channels, then the self-loops. -/
theorem sum_edges (f : Fin 532480 → M) :
    ∑ k, f k = (∑ p, ∑ i, ∑ j, f (edgeAt p i j)) + ∑ p, ∑ n, f (loopAt p n) := by
  rw [show ∑ k, f k = _ from Fin.sum_univ_add (a := 524288) (b := 8192) f]
  exact congrArg₂ (· + ·) (sum_between fun k => f (Fin.castAdd 8192 k)).symm (sum_node fun r => f (Fin.natAdd 524288 r)).symm

/-- A sum over the edges into one node. -/
theorem sum_into (P : Fin 532480 → Prop) [DecidablePred P] (q : Fin 128) (n : Fin 64)
    (hE : ∀ p i j, P (edgeAt p i j) ↔ p = q ∧ j = n) (hL : ∀ p j, P (loopAt p j) ↔ p = q ∧ j = n) (f : Fin 532480 → M) :
    ∑ k ∈ univ.filter P, f k = (∑ i, f (edgeAt q i n)) + f (loopAt q n) := by
  rw [sum_filter, sum_edges]
  refine congrArg₂ (· + ·) ?_ ?_
  · rw [sum_eq_single q]
    · refine sum_congr rfl fun i _ => ?_
      rw [sum_eq_single n]
      · exact if_pos ((hE q i n).mpr ⟨rfl, rfl⟩)
      · exact fun j _ hj => if_neg fun h => hj ((hE q i j).mp h).2
      · exact fun h => (h (mem_univ _)).elim
    · exact fun p _ hp => sum_eq_zero fun i _ => sum_eq_zero fun j _ => if_neg fun h => hp ((hE p i j).mp h).1
    · exact fun h => (h (mem_univ _)).elim
  · rw [sum_eq_single q]
    · rw [sum_eq_single n]
      · exact if_pos ((hL q n).mpr ⟨rfl, rfl⟩)
      · exact fun j _ hj => if_neg fun h => hj ((hL q j).mp h).2
      · exact fun h => (h (mem_univ _)).elim
    · exact fun p _ hp => sum_eq_zero fun j _ => if_neg fun h => hp ((hL p j).mp h).1
    · exact fun h => (h (mem_univ _)).elim

/-- The normalized sum over the edges into a node is `mix`. -/
theorem mix_of_edges (wd wo : ℝ) (y : Feat) (p : Fin 128) (n : Fin 64) (e : Fin 128) :
    (∑ i, y p i e * (invRoot (degree wd wo) * (if i = n then wd else wo) * invRoot (degree wd wo)))
        + y p n e * (invRoot (degree wd wo) * 1 * invRoot (degree wd wo))
      = mix (across wd wo) (self wd wo) y p n e := by
  have h : ∀ i : Fin 64, y p i e * (invRoot (degree wd wo) * (if i = n then wd else wo) * invRoot (degree wd wo))
      = y p i e * (if i = n then self wd wo - invRoot (degree wd wo) * invRoot (degree wd wo) else across wd wo) := by
    intro i
    unfold self across
    split <;> ring
  rw [sum_congr rfl fun i _ => h i, mix_eq_sum]
  unfold mix
  ring

end Cert.Network

end
-- ==== Proof.Reference.Words.lean ====
/- The reference's edge lists: the source and target node words of every edge, and the edge weights. -/
module

public import Idealize.ShloMosaic.Lib.Pointwise
public import Idealize.ShloMosaic.Lib.Routing.OpsSet
public import Idealize.ShloMosaic.Lib.Pipeline.Value
public import proofs.«01_k».proof.Proof.Gen.ReferenceIdeal.Read
public import proofs.«01_k».proof.Proof.Network.Edges
public import proofs.«01_k».proof.Proof.Network.Inputs
public import proofs.«01_k».proof.Proof.Network.Lift

@[expose] public section

set_option maxRecDepth 16384

noncomputable section

namespace Cert.ReferenceIdeal.Body

open Idealize.ShloMosaic Idealize.ShloMosaic.TcCoe Cert.ReferenceIdeal Cert.ReferenceIdeal.Gen Cert.ReferenceIdeal.Read Cert.Network

/-- The word of a node. -/
abbrev word (r : Fin 8192) : BitVec 32 := BitVec.ofNat 32 r.val

theorem word_of (p : Fin 128) (n : Fin 64) :
    IntOp.addi (BitVec.ofNat 32 n.val) (IntOp.muli (BitVec.ofNat 32 p.val) 64#32) = word (node p n) := by
  have hp := p.isLt
  have hn := n.isLt
  refine BitVec.eq_of_toNat_eq ?_
  show (BitVec.ofNat 32 n.val + BitVec.ofNat 32 p.val * 64#32).toNat = (BitVec.ofNat 32 (node p n).val).toNat
  rw [node_val, BitVec.toNat_add, BitVec.toNat_mul, BitVec.toNat_ofNat, BitVec.toNat_ofNat, BitVec.toNat_ofNat, BitVec.toNat_ofNat]
  omega

theorem sources_at (x10 : Vec Ideal (⟨2, ![2, 4096]⟩ : Shape) .i32) (p : Fin 128) (k : Fin 4096) :
    val_main_v9 (F := Ideal) x10 (ix2 p k) = IntOp.addi (x10 (ix2 0 k)) (IntOp.muli (BitVec.ofNat 32 p.val) 64#32) := by
  pointwise [val_main_v9, val_main_v8, val_main_v7, val_main_v6, val_main_v5, val_main_v4, val_main_v3, val_main_v2, val_main_v1, val_main_v0, val_main_c]

theorem targets_at (x10 : Vec Ideal (⟨2, ![2, 4096]⟩ : Shape) .i32) (p : Fin 128) (k : Fin 4096) :
    val_main_v16 (F := Ideal) x10 (ix2 p k) = IntOp.addi (x10 (ix2 1 k)) (IntOp.muli (BitVec.ofNat 32 p.val) 64#32) := by
  pointwise [val_main_v16, val_main_v15, val_main_v14, val_main_v13, val_main_v12, val_main_v11, val_main_v3, val_main_v2, val_main_v1, val_main_v0, val_main_c]

/-- An edge between channels, in the flat list, is row `p` of the two-dimensional one. -/
theorem flat_edge (p : Fin 128) (i j : Fin 64) : idx_main_v10 (ix1 (between p i j)) = ix2 p (edge i j) := by
  have hk := (edge i j).isLt
  have hb := between_val p i j
  funext a
  match a with
  | ⟨0, _⟩ =>
    refine Fin.ext ?_
    show (between p i j).val / 4096 = p.val
    omega
  | ⟨1, _⟩ =>
    refine Fin.ext ?_
    show (between p i j).val % 4096 = (edge i j).val
    omega

/-- A joined list at an edge between channels. -/
theorem join_edge {α : Type} (y : S524288.Idx → α) (z : S8192.Idx → α) (p : Fin 128) (i j : Fin 64) :
    concatenate S532480 0 [⟨S524288, y⟩, ⟨S8192, z⟩] concatenates_S524288_S8192_S532480_d0 (ix1 (edgeAt p i j)) = y (ix1 (between p i j)) := by
  refine concatenate_pair_apply_left (t := S532480) 0 y z _ (ix1 (edgeAt p i j)) rfl (ix1 (between p i j)) fun b => ?_
  match b with
  | ⟨0, _⟩ => rfl

/-- A joined list at a self-loop. -/
theorem join_loop {α : Type} (y : S524288.Idx → α) (z : S8192.Idx → α) (p : Fin 128) (n : Fin 64) :
    concatenate S532480 0 [⟨S524288, y⟩, ⟨S8192, z⟩] concatenates_S524288_S8192_S532480_d0 (ix1 (loopAt p n)) = z (ix1 (node p n)) := by
  refine concatenate_pair_apply_right (t := S532480) 0 y z _ (ix1 (loopAt p n)) rfl rfl (ix1 (node p n)) (fun b hb => ?_) ?_
  · match b with
    | ⟨0, _⟩ => exact (hb rfl).elim
  · show (node p n).val + 524288 = 524288 + (node p n).val
    omega

variable {x10 : Vec Ideal (⟨2, ![2, 4096]⟩ : Shape) .i32} {x11 : Vec Ideal (⟨1, ![4096]⟩ : Shape) .f32} {wd wo : ℝ}

/-- The graph read from the last two arguments. -/
structure Graph (x10 : Vec Ideal (⟨2, ![2, 4096]⟩ : Shape) .i32) (x11 : Vec Ideal (⟨1, ![4096]⟩ : Shape) .f32) (wd wo : ℝ) : Prop where
  source : ∀ i j, x10 (ix2 0 (edge i j)) = BitVec.ofNat 32 i.val
  target : ∀ i j, x10 (ix2 1 (edge i j)) = BitVec.ofNat 32 j.val
  weight : ∃ vd vo, Weigh vd vo wd wo ∧ ∀ i j, x11 (ix1 (edge i j)) = if i = j then vd else vo

theorem source_edge (G : Graph x10 x11 wd wo) (p : Fin 128) (i j : Fin 64) :
    val_main_v22 (F := Ideal) x10 (ix1 (edgeAt p i j)) = word (node p i) := by
  refine (join_edge _ _ p i j).trans ?_
  rw [val_main_v10_apply, flat_edge, sources_at, G.source]
  exact word_of p i

theorem source_loop (p : Fin 128) (n : Fin 64) :
    val_main_v22 (F := Ideal) x10 (ix1 (loopAt p n)) = word (node p n) :=
  join_loop _ _ p n

theorem target_edge (G : Graph x10 x11 wd wo) (p : Fin 128) (i j : Fin 64) :
    val_main_v23 (F := Ideal) x10 (ix1 (edgeAt p i j)) = word (node p j) := by
  refine (join_edge _ _ p i j).trans ?_
  rw [val_main_v17_apply, show idx_main_v17 (ix1 (between p i j)) = ix2 p (edge i j) from flat_edge p i j, targets_at, G.target]
  exact word_of p j

theorem target_loop (p : Fin 128) (n : Fin 64) :
    val_main_v23 (F := Ideal) x10 (ix1 (loopAt p n)) = word (node p n) :=
  join_loop _ _ p n

theorem weights_at (x11 : Vec Ideal (⟨1, ![4096]⟩ : Shape) .f32) (p : Fin 128) (k : Fin 4096) :
    val_main_v19 (F := Ideal) x11 (ix2 p k) = x11 (ix1 k) := by
  pointwise [val_main_v19, val_main_v18]

theorem ones_at (r : Fin 8192) : val_main_v24 (F := Ideal) (ix1 r) = ((1 : ℝ) : EReal) := by
  pointwise [val_main_v24, val_main_cst]
  exact EReal.coe_one.symm

theorem weight_edge (p : Fin 128) (i j : Fin 64) :
    val_main_v25 (F := Ideal) x11 (ix1 (edgeAt p i j)) = x11 (ix1 (edge i j)) := by
  refine (join_edge _ _ p i j).trans ?_
  rw [val_main_v20_apply, show idx_main_v20 (ix1 (between p i j)) = ix2 p (edge i j) from flat_edge p i j, weights_at]

theorem weight_loop (p : Fin 128) (n : Fin 64) :
    val_main_v25 (F := Ideal) x11 (ix1 (loopAt p n)) = ((1 : ℝ) : EReal) :=
  (join_loop _ _ p n).trans (ones_at _)

theorem word_toInt (r : Fin 8192) : (word r).toInt = (r.val : Int) := by
  have h := r.isLt
  exact StableHlo.Predicate.toInt_ofNat_small _ (by omega)

theorem word_eq (p q : Fin 128) (n k : Fin 64) : (word (node p n)).toInt = ((node q k).val : Int) ↔ p = q ∧ n = k := by
  rw [word_toInt, ← node_inj p q n k]
  exact Int.ofNat_inj

/-- A node's word is not negative, so wrapping it keeps it. -/
theorem wrap_word (r : Fin 8192) (y : BitVec 32) : Scalar.select (IntOp.cmpi .slt (word r) 0#32) y (word r) = word r := by
  have h := r.isLt
  refine Routing.wrap_of_lt _ y ?_
  show (BitVec.ofNat 32 r.val).toNat < 2 ^ 31
  rw [BitVec.toNat_ofNat]
  omega

/-- The wrapped source column. -/
theorem wrapped_source (k : Fin 532480) (r : Fin 8192) (h : val_main_v22 (F := Ideal) x10 (ix1 k) = word r) :
    val_main_v39 (F := Ideal) x10 (ix2 k 0) = word r := by
  refine Eq.trans ?_ (wrap_word r (IntOp.addi (word r) 8192#32))
  generalize hv : val_main_v22 (F := Ideal) x10 = v at h
  rw [← h]
  pointwise [val_main_v39, val_main_v38, val_main_v37, val_main_v36, val_main_v35, val_main_v34, val_main_c_4, val_main_c_5, hv]

/-- The wrapped target column. -/
theorem wrapped_target (k : Fin 532480) (r : Fin 8192) (h : val_main_v23 (F := Ideal) x10 (ix1 k) = word r) :
    val_main_v47 (F := Ideal) x10 (ix2 k 0) = word r := by
  refine Eq.trans ?_ (wrap_word r (IntOp.addi (word r) 8192#32))
  generalize hv : val_main_v23 (F := Ideal) x10 = v at h
  rw [← h]
  pointwise [val_main_v47, val_main_v46, val_main_v45, val_main_v44, val_main_v43, val_main_v42, val_main_c_6, val_main_c_7, hv]

/-- The target column, unwrapped. -/
theorem target_column (k : Fin 532480) : val_main_v63 (F := Ideal) x10 (ix2 k 0) = val_main_v23 (F := Ideal) x10 (ix1 k) := by
  generalize hv : val_main_v23 (F := Ideal) x10 = v
  pointwise [val_main_v63, hv]

end Cert.ReferenceIdeal.Body

end
-- ==== Proof.Reference.Degrees.lean ====
/- The reference's degrees and its normalized edge weights. -/
module

public import proofs.«01_k».proof.Proof.Network.Scatter
public import proofs.«01_k».proof.Proof.Reference.Words

@[expose] public section

set_option maxRecDepth 16384

noncomputable section

namespace Cert.ReferenceIdeal.Body

open Idealize.ShloMosaic Idealize.ShloMosaic.TcCoe Cert.ReferenceIdeal Cert.ReferenceIdeal.Gen Cert.ReferenceIdeal.Read Cert.Network

variable {x10 : Vec Ideal (⟨2, ![2, 4096]⟩ : Shape) .i32} {x11 : Vec Ideal (⟨1, ![4096]⟩ : Shape) .f32} {wd wo : ℝ}

theorem into_edge (G : Graph x10 x11 wd wo) (q p : Fin 128) (n i j : Fin 64) :
    (val_main_v63 (F := Ideal) x10 (ix2 (edgeAt p i j) 0)).toInt = ((node q n).val : Int) ↔ p = q ∧ j = n := by
  rw [target_column, target_edge G]
  exact word_eq p q j n

theorem into_loop (q p : Fin 128) (n j : Fin 64) :
    (val_main_v63 (F := Ideal) x10 (ix2 (loopAt p j) 0)).toInt = ((node q n).val : Int) ↔ p = q ∧ j = n := by
  rw [target_column, target_loop]
  exact word_eq p q j n

/-- The sum over the edges the reference's scatters send to one node. -/
theorem sum_targets (G : Graph x10 x11 wd wo) (q : Fin 128) (n : Fin 64) (f : Fin 532480 → EReal) :
    ∑ k ∈ Finset.univ.filter (fun k : Fin 532480 => (val_main_v63 (F := Ideal) x10 (ix2 k 0)).toInt = ((node q n).val : Int)), f k
      = (∑ i, f (edgeAt q i n)) + f (loopAt q n) :=
  sum_into _ q n (fun p i j => into_edge G q p n i j) (fun p j => into_loop q p n j) f

theorem zeros_at (r : Fin 8192) : val_main_v26 (F := Ideal) (ix1 r) = (0 : EReal) := by
  pointwise [val_main_v26, val_main_cst_0]

theorem degree_at (G : Graph x10 x11 wd wo) (q : Fin 128) (n : Fin 64) :
    val_main_v28 (F := Ideal) x10 x11 (ix1 (node q n)) = (∑ i, x11 (ix1 (edge i n))) + ((1 : ℝ) : EReal) := by
  refine (scatter_numbers scatter_S8192_S532480x1_S532480_n_0_0_1 rfl rfl rfl rfl _ (val_main_v63 (F := Ideal) x10) _ _).trans ?_
  rw [sum_targets G, zeros_at, weight_loop, zero_add]
  rw [Finset.sum_congr rfl fun i _ => weight_edge q i n]

theorem root_real (r : Fin 8192) (D : ℝ) (h : val_main_v28 (F := Ideal) x10 x11 (ix1 r) = ((D : ℝ) : EReal)) :
    val_main_v33 (F := Ideal) x10 x11 (ix1 r) = ((invRoot D : ℝ) : EReal) := by
  generalize hv : val_main_v28 (F := Ideal) x10 x11 = v at h
  pointwise [val_main_v33, val_main_v32, val_main_v31, val_main_v30, val_main_v29, val_main_call0_v1, val_main_call0_v0, val_main_cst_1, val_main_cst_2, val_main_cst_3, hv, h]
  by_cases hD : 0 < D
  · rw [if_pos (EReal.coe_pos.mpr hD), ofBits_neg_half, Ideal.pow_coe_coe, rpow_neg_half hD]
    unfold invRoot
    rw [if_pos hD]
  · rw [if_neg (fun hc => hD (EReal.coe_pos.mp hc))]
    refine (Ideal.ofBits_zero_f32).trans ?_
    unfold invRoot
    rw [if_neg hD, zero_eq]

theorem root_infinite (r : Fin 8192) (h : Infinite (val_main_v28 (F := Ideal) x10 x11 (ix1 r))) :
    val_main_v33 (F := Ideal) x10 x11 (ix1 r) = 0 := by
  generalize hv : val_main_v28 (F := Ideal) x10 x11 = v at h
  rcases h with h | h
  · pointwise [val_main_v33, val_main_v32, val_main_v31, val_main_v30, val_main_v29, val_main_call0_v1, val_main_call0_v0, val_main_cst_1, val_main_cst_2, val_main_cst_3, hv, h]
    rw [if_pos EReal.zero_lt_top, ofBits_neg_half]
    show (if (0 : EReal) < ((-1 / 2 : ℝ) : EReal) then (⊤ : EReal) else if ((-1 / 2 : ℝ) : EReal) = 0 then 1 else 0) = 0
    rw [if_neg (fun hc => by have := EReal.coe_pos.mp hc; norm_num at this), if_neg (fun hc => by have := EReal.coe_eq_zero.mp hc; norm_num at this)]
  · pointwise [val_main_v33, val_main_v32, val_main_v31, val_main_v30, val_main_v29, val_main_call0_v1, val_main_call0_v0, val_main_cst_1, val_main_cst_2, val_main_cst_3, hv, h]
    rw [if_neg not_lt_bot]
    exact Ideal.ofBits_zero_f32

/-- A node's inverse root. -/
theorem root_at (G : Graph x10 x11 wd wo) (q : Fin 128) (n : Fin 64) :
    val_main_v33 (F := Ideal) x10 x11 (ix1 (node q n)) = ((invRoot (degree wd wo) : ℝ) : EReal) := by
  obtain ⟨vd, vo, hw, hx⟩ := G.weight
  rcases hw with ⟨rfl, rfl⟩ | ⟨h0, hi⟩
  · refine root_real _ _ ((degree_at G q n).trans ?_)
    have h : ∀ i : Fin 64, x11 (ix1 (edge i n)) = ((if i = n then wd else wo : ℝ) : EReal) := fun i => by
      rw [hx]
      split <;> rfl
    rw [Finset.sum_congr rfl fun i _ => h i, coe_sum, sum_diag, ← EReal.coe_add]
    rfl
  · rw [h0, EReal.coe_zero]
    refine root_infinite _ ?_
    rw [degree_at G]
    refine infinite_add (infinite_column hi _ n (fun h => ?_) (fun i hn h => ?_)) _
    · rw [hx, if_pos rfl]
      exact h
    · rw [hx, if_neg hn]
      exact h

theorem root_source (G : Graph x10 x11 wd wo) (k : Fin 532480) (q : Fin 128) (n : Fin 64)
    (h : val_main_v22 (F := Ideal) x10 (ix1 k) = word (node q n)) :
    val_main_v40 (F := Ideal) x10 x11 (ix1 k) = ((invRoot (degree wd wo) : ℝ) : EReal) :=
  (Routing.gather_take1 gather_S8192_S532480x1_S532480_n_0_n_n_0_1_1 rfl rfl rfl rfl (val_main_v33 (F := Ideal) x10 x11)
    (val_main_v39 (F := Ideal) x10) k (node q n) (wrapped_source k _ h) (by norm_num)).trans (root_at G q n)

theorem root_target (G : Graph x10 x11 wd wo) (k : Fin 532480) (q : Fin 128) (n : Fin 64)
    (h : val_main_v23 (F := Ideal) x10 (ix1 k) = word (node q n)) :
    val_main_v48 (F := Ideal) x10 x11 (ix1 k) = ((invRoot (degree wd wo) : ℝ) : EReal) :=
  (Routing.gather_take1 gather_S8192_S532480x1_S532480_n_0_n_n_0_1_1 rfl rfl rfl rfl (val_main_v33 (F := Ideal) x10 x11)
    (val_main_v47 (F := Ideal) x10) k (node q n) (wrapped_target k _ h) (by norm_num)).trans (root_at G q n)

/-- The normalized weight of an edge between channels. -/
theorem norm_edge (G : Graph x10 x11 wd wo) (p : Fin 128) (i j : Fin 64) :
    val_main_v49 (F := Ideal) x10 x11 (ix1 (edgeAt p i j))
      = ((invRoot (degree wd wo) * (if i = j then wd else wo) * invRoot (degree wd wo) : ℝ) : EReal) := by
  rw [val_main_v49_apply, val_main_v41_apply, root_source G _ p i (source_edge G p i j), root_target G _ p j (target_edge G p i j), weight_edge]
  obtain ⟨vd, vo, hw, hx⟩ := G.weight
  rw [hx]
  rcases hw with ⟨rfl, rfl⟩ | ⟨h0, hi⟩
  · rw [EReal.coe_mul, EReal.coe_mul]
    split <;> rfl
  · rw [h0, EReal.coe_zero, zero_mul, zero_mul, EReal.coe_zero]
    exact mul_zero _

/-- The normalized weight of a self-loop. -/
theorem norm_loop (G : Graph x10 x11 wd wo) (p : Fin 128) (n : Fin 64) :
    val_main_v49 (F := Ideal) x10 x11 (ix1 (loopAt p n))
      = ((invRoot (degree wd wo) * 1 * invRoot (degree wd wo) : ℝ) : EReal) := by
  rw [val_main_v49_apply, val_main_v41_apply, root_source G _ p n (source_loop p n), root_target G _ p n (target_loop p n), weight_loop]
  rw [EReal.coe_mul, EReal.coe_mul]
  rfl

end Cert.ReferenceIdeal.Body

end
-- ==== Proof.Reference.Convolve.lean ====
/- One graph convolution of the reference: features times a weight matrix, gathered along the edges, weighted, and added up at the targets. -/
module

public import proofs.«01_k».proof.Proof.Reference.Degrees

@[expose] public section

set_option maxRecDepth 16384

noncomputable section

namespace Cert.ReferenceIdeal.Body

open Idealize.ShloMosaic Idealize.ShloMosaic.TcCoe Cert.ReferenceIdeal Cert.ReferenceIdeal.Gen Cert.ReferenceIdeal.Read Cert.Network

/-- The features of all nodes, one node a row. -/
abbrev Nodes := FVec Ideal (⟨2, ![8192, 128]⟩ : Shape) .f32

/-- An array of node rows holds the features `H`. -/
def IsNodes (h : Nodes) (H : Feat) : Prop := ∀ p n e, h (ix2 (node p n) e) = ((H p n e : ℝ) : EReal)

variable {x10 : Vec Ideal (⟨2, ![2, 4096]⟩ : Shape) .i32} {x11 : Vec Ideal (⟨1, ![4096]⟩ : Shape) .f32} {wd wo : ℝ}

/-- Node rows times a weight matrix. -/
def times (h : Nodes) (W : FVec Ideal (⟨2, ![128, 128]⟩ : Shape) .f32) : Nodes :=
  Host.dotGeneral dot_S8192x128_S128x128_S8192x128_1_0_0_1_n_n none h W

/-- The weighted rows carried by the edges. -/
def carried (x10 : Vec Ideal (⟨2, ![2, 4096]⟩ : Shape) .i32) (x11 : Vec Ideal (⟨1, ![4096]⟩ : Shape) .f32) (y : Nodes) :
    FVec Ideal (⟨2, ![532480, 128]⟩ : Shape) .f32 :=
  mulf (Host.gather gather_S8192x128_S532480x1_S532480x128_1_0_n_n_0_1_1128 y (val_main_v39 (F := Ideal) x10)) (val_main_v60 (F := Ideal) x10 x11)

/-- The rows added up at the edges' targets. -/
def gathered (x10 : Vec Ideal (⟨2, ![2, 4096]⟩ : Shape) .i32) (x11 : Vec Ideal (⟨1, ![4096]⟩ : Shape) .f32) (y : Nodes) : Nodes :=
  Host.scatterAdd (F := Ideal) scatter_S8192x128_S532480x1_S532480x128_1_0_0_1 (val_main_v62 (F := Ideal)) (val_main_v63 (F := Ideal) x10) (carried x10 x11 y)

theorem times_at {h : Nodes} {H : Feat} (hh : IsNodes h H) {W : FVec Ideal (⟨2, ![128, 128]⟩ : Shape) .f32} {V : Mat}
    (hW : ∀ k e, W (ix2 k e) = ((V k e : ℝ) : EReal)) : IsNodes (times h W) (Network.dot H V) := by
  intro p n e
  have hr : ∀ k, h (ix2 (node p n) k) = ((H p n k : ℝ) : EReal) := fun k => hh p n k
  unfold Network.dot
  generalize node p n = r at hr ⊢
  pointwise [times, hr _, hW _ _]
  simp only [← EReal.coe_mul, coe_sum]

theorem norms_at (k : Fin 532480) (e : Fin 128) :
    val_main_v60 (F := Ideal) x10 x11 (ix2 k e) = val_main_v49 (F := Ideal) x10 x11 (ix1 k) := by
  generalize hv : val_main_v49 (F := Ideal) x10 x11 = v
  pointwise [val_main_v60, val_main_v59, hv]

theorem carried_at (y : Nodes) (k : Fin 532480) (r : Fin 8192) (h : val_main_v22 (F := Ideal) x10 (ix1 k) = word r) (e : Fin 128) :
    carried x10 x11 y (ix2 k e) = (y (ix2 r e) * val_main_v49 (F := Ideal) x10 x11 (ix1 k) : EReal) := by
  refine congrArg₂ (fun a b : EReal => a * b) ?_ (norms_at k e)
  exact Routing.gather_row gather_S8192x128_S532480x1_S532480x128_1_0_n_n_0_1_1128 rfl rfl rfl rfl rfl y
    (val_main_v39 (F := Ideal) x10) k e r (wrapped_source k r h) (by norm_num)

theorem zero_rows (r : Fin 8192) (e : Fin 128) : val_main_v62 (F := Ideal) (ix2 r e) = (0 : EReal) := by
  pointwise [val_main_v62, val_main_cst_10]

theorem gathered_at (G : Graph x10 x11 wd wo) {y : Nodes} {Y : Feat} (hy : IsNodes y Y) :
    IsNodes (gathered x10 x11 y) (mix (across wd wo) (self wd wo) Y) := by
  intro p n e
  refine (scatter_rows scatter_S8192x128_S532480x1_S532480x128_1_0_0_1 rfl rfl rfl rfl _ (val_main_v63 (F := Ideal) x10) _ _ _).trans ?_
  rw [sum_targets G, zero_rows, zero_add]
  rw [carried_at y _ _ (source_loop p n), norm_loop G, hy p n e, ← EReal.coe_mul]
  rw [Finset.sum_congr rfl fun i _ =>
    (carried_at y (edgeAt p i n) (node p i) (source_edge G p i n) e).trans
      ((congrArg₂ (fun a b : EReal => a * b) (hy p i e) (norm_edge G p i n)).trans (EReal.coe_mul _ _).symm)]
  rw [coe_sum, ← EReal.coe_add, mix_of_edges]

/-- A graph convolution holds the mixed features. -/
theorem convolve_at (G : Graph x10 x11 wd wo) {h : Nodes} {H : Feat} (hh : IsNodes h H) {W : FVec Ideal (⟨2, ![128, 128]⟩ : Shape) .f32} {V : Mat}
    (hW : ∀ k e, W (ix2 k e) = ((V k e : ℝ) : EReal)) :
    IsNodes (gathered x10 x11 (times h W)) (mix (across wd wo) (self wd wo) (Network.dot H V)) :=
  gathered_at G (times_at hh hW)

end Cert.ReferenceIdeal.Body

end
-- ==== Proof.Reference.Normalize.lean ====
/- The reference's batch normalization over all node rows. -/
module

public import proofs.«01_k».proof.Proof.Reference.Convolve

@[expose] public section

set_option maxRecDepth 16384

noncomputable section

namespace Cert.ReferenceIdeal.Body

open Idealize.ShloMosaic Idealize.ShloMosaic.TcCoe Cert.ReferenceIdeal Cert.ReferenceIdeal.Gen Cert.ReferenceIdeal.Read Cert.Network

/-- One number per feature. -/
abbrev Features := FVec Ideal (⟨1, ![128]⟩ : Shape) .f32

/-- A feature's sum over all rows. -/
def sums (Y : Nodes) : Features :=
  Host.reduceAdd (F := Ideal) Y (val_main_cst_11 (F := Ideal)) reducesTo_S8192x128_S128_d0 h_S_

/-- A feature's mean over all rows. -/
def means (Y : Nodes) : Features := Host.divf (F := Ideal) (sums Y) (val_main_v66 (F := Ideal))

/-- The rows less their means, as the variance reads them. -/
def centred (Y : Nodes) : Nodes :=
  subf (F := Ideal) Y (broadcastInDim S8192x128 ![0, 1] bcast_S1x128_S8192x128_0_1
    (Host.divf (F := Ideal) (broadcastInDim S1x128 ![1] bcast_S128_S1x128_1 (sums Y)) (val_main_call1_v2 (F := Ideal))))

/-- A feature's variance over all rows. -/
def variances (Y : Nodes) : Features :=
  select (broadcastInDim S128 ![] bcast_S_S128 (val_main_call1_v12 (F := Ideal)))
    (Host.divf (F := Ideal) (sums (mulf (F := Ideal) (centred Y) (centred Y))) (val_main_call1_v10 (F := Ideal))) (val_main_call1_call0_v1 (F := Ideal))

/-- One number per feature, on every row. -/
def onRows (g : Features) : Nodes :=
  broadcastInDim S8192x128 ![0, 1] bcast_S1x128_S8192x128_0_1 (broadcastInDim S1x128 ![1] bcast_S128_S1x128_1 g)

/-- The normalized rows, scaled, shifted, and rectified. -/
def normalized (Y : Nodes) (g b : Features) : Nodes :=
  maximumf (F := Ideal)
    (addf (F := Ideal)
      (mulf (F := Ideal)
        (Host.divf (F := Ideal) (subf (F := Ideal) Y (onRows (means Y))) (onRows (Host.sqrt (F := Ideal) (addf (F := Ideal) (variances Y) (val_main_v72 (F := Ideal))))))
        (onRows g))
      (onRows b))
    (val_main_call2_v0 (F := Ideal))

theorem onRows_at (g : Features) (r : Fin 8192) (e : Fin 128) : onRows g (ix2 r e) = g (ix1 e) := by
  pointwise [onRows]

theorem sums_at {Y : Nodes} {H : Feat} (hY : IsNodes Y H) (e : Fin 128) : sums Y (ix1 e) = ((total H e : ℝ) : EReal) := by
  have h : sums Y (ix1 e) = (∑ r, Y (ix2 r e) : EReal) := by
    pointwise [sums, val_main_cst_11]
  rw [h, ← sum_node fun r => (Y (ix2 r e) : EReal), Finset.sum_congr rfl fun p _ => (Finset.sum_congr rfl fun n _ => hY p n e).trans (coe_sum _ _), coe_sum]
  rfl

theorem means_at {Y : Nodes} {H : Feat} (hY : IsNodes Y H) (e : Fin 128) : means Y (ix1 e) = ((Network.mean H e : ℝ) : EReal) := by
  have h := sums_at hY e
  unfold Network.mean
  generalize hs : sums Y = s at h
  pointwise [means, val_main_v66, val_main_cst_12, hs, h]
  rw [ofBits_count, Ideal.div_coe (by norm_num), ← EReal.coe_mul, mul_one_div]

theorem centred_at {Y : Nodes} {H : Feat} (hY : IsNodes Y H) : IsNodes (centred Y) (fun p n e => H p n e - Network.mean H e) := by
  intro p n e
  have h := sums_at hY e
  have hy := hY p n e
  unfold Network.mean
  generalize hs : sums Y = s at h
  generalize node p n = r at hy ⊢
  pointwise [centred, val_main_call1_v2, val_main_call1_cst_0, hs, h, hy]
  rw [ofBits_count, Ideal.div_coe (by norm_num), ← EReal.coe_mul, mul_one_div, ← EReal.coe_sub]

theorem variances_at {Y : Nodes} {H : Feat} (hY : IsNodes Y H) (e : Fin 128) : variances Y (ix1 e) = ((Network.variance H e : ℝ) : EReal) := by
  have hc := centred_at hY
  have hm : IsNodes (mulf (F := Ideal) (centred Y) (centred Y)) (fun p n e => (H p n e - Network.mean H e) * (H p n e - Network.mean H e)) := fun p n e => by
    refine (congrArg₂ (fun a b : EReal => a * b) (hc p n e) (hc p n e)).trans ?_
    exact (EReal.coe_mul _ _).symm
  have h := sums_at hm e
  unfold Network.variance
  generalize hs : sums (mulf (F := Ideal) (centred Y) (centred Y)) = s at h
  pointwise [variances, val_main_call1_v12, val_main_call1_v10, val_main_call1_v8, val_main_call1_v7, val_main_call1_cst_1, val_main_call1_cst_3, val_main_c_13, hs, h]
  have h0 : (FloatOps.sitofp (F := Ideal) FTy.f32 0#32 : EReal) = ((0 : ℝ) : EReal) := by
    show ((((0#32 : BitVec 32).toInt : ℤ) : ℝ) : EReal) = _
    norm_num
  rw [h0, ofBits_count, ← EReal.coe_sub, if_pos (EReal.coe_pos.mpr (by norm_num)), Ideal.div_coe (by norm_num), ← EReal.coe_mul, sub_zero, mul_one_div]

/-- The normalized rows hold the normalized features, whatever the offset. -/
theorem normalized_ext {Y : Nodes} {H : Feat} (hY : IsNodes Y H) {g b : Features} {gr : Row} {br : Fin 128 → EReal}
    (hg : ∀ e, g (ix1 e) = ((gr e : ℝ) : EReal)) (hb : ∀ e, b (ix1 e) = br e) (p : Fin 128) (n : Fin 64) (e : Fin 128) :
    normalized Y g b (ix2 (node p n) e) = normalizeExt H gr br p n e := by
  have hm := means_at hY e
  have hv := variances_at hY e
  have hp := variance_pos H e
  have hy := hY p n e
  have hge := hg e
  have hbe := hb e
  unfold normalizeExt
  generalize hms : means Y = m at hm
  generalize hvs : variances Y = v at hv
  generalize node p n = r at hy ⊢
  generalize variance H e = vr at hv hp ⊢
  generalize Network.mean H e = mr at hm ⊢
  pointwise [normalized, onRows, val_main_v72, val_main_cst_14, val_main_call2_v0, val_main_call2_cst, hms, hvs, hm, hv, hy, hge, hbe]
  rw [ofBits_eps, ← EReal.coe_add, Ideal.sqrt_coe, if_neg hp.le.not_gt, Ideal.div_coe (Real.sqrt_ne_zero'.mpr hp)]
  simp only [← EReal.coe_mul, ← EReal.coe_sub, mul_one_div]

/-- With a real offset they hold the real normalization. -/
theorem normalized_at {Y : Nodes} {H : Feat} (hY : IsNodes Y H) {g b : Features} {gr br : Row}
    (hg : ∀ e, g (ix1 e) = ((gr e : ℝ) : EReal)) (hb : ∀ e, b (ix1 e) = ((br e : ℝ) : EReal)) :
    IsNodes (normalized Y g b) (normalize H gr br) := fun p n e =>
  (normalized_ext hY hg (fun _ => rfl) p n e).trans (normalizeExt_real H gr _ br hb p n e)

end Cert.ReferenceIdeal.Body

end
-- ==== Proof.Reference.Value.lean ====
/- The reference's result, as the network's output. -/
module

public import proofs.«01_k».proof.Proof.Reference.Normalize

@[expose] public section

set_option maxRecDepth 16384

noncomputable section

namespace Cert.ReferenceIdeal.Body

open Idealize.ShloMosaic Idealize.ShloMosaic.TcCoe Cert.ReferenceIdeal Cert.ReferenceIdeal.Gen Cert.ReferenceIdeal.Read Cert.Network

variable {I : Inputs} {x0 : Vec Ideal (⟨3, ![128, 64, 128]⟩ : Shape) .f32}
  {x1 x2 x3 : Vec Ideal (⟨2, ![128, 128]⟩ : Shape) .f32} {x4 x5 x6 x7 x8 x9 : Vec Ideal (⟨1, ![128]⟩ : Shape) .f32}
  {x10 : Vec Ideal (⟨2, ![2, 4096]⟩ : Shape) .i32} {x11 : Vec Ideal (⟨1, ![4096]⟩ : Shape) .f32}

theorem graph_of (R : Reads I x0 x1 x2 x3 x4 x5 x6 x7 x8 x9 x10 x11) : Graph x10 x11 I.wd I.wo :=
  ⟨R.source, R.target, R.weight⟩

/-- A node's row, read back in the three-dimensional array. -/
theorem flat_node (p : Fin 128) (n : Fin 64) (e : Fin 128) : idx_main_v50 (ix2 (node p n) e) = ix3 p n e := by
  have hn := node_val p n
  have hb := n.isLt
  have he := e.isLt
  funext a
  match a with
  | ⟨0, _⟩ =>
    refine Fin.ext ?_
    show ((node p n).val * 128 + e.val) / 8192 = p.val
    omega
  | ⟨1, _⟩ =>
    refine Fin.ext ?_
    show ((node p n).val * 128 + e.val) / 128 % 64 = n.val
    omega
  | ⟨2, _⟩ =>
    refine Fin.ext ?_
    show ((node p n).val * 128 + e.val) % 128 = e.val
    omega

theorem input_nodes (R : Reads I x0 x1 x2 x3 x4 x5 x6 x7 x8 x9 x10 x11) : IsNodes (val_main_v50 (F := Ideal) x0) I.x := by
  intro p n e
  rw [val_main_v50_apply, flat_node]
  exact R.x p n e

theorem conv1_eq : val_main_v64 (F := Ideal) x0 x1 x10 x11 = gathered x10 x11 (times (val_main_v50 (F := Ideal) x0) x1) := rfl

theorem norm1_eq : val_main_v84 (F := Ideal) x0 x1 x4 x5 x10 x11 = normalized (val_main_v64 (F := Ideal) x0 x1 x10 x11) x4 x5 := rfl

theorem conv2_eq : val_main_v98 (F := Ideal) x0 x1 x2 x4 x5 x10 x11
    = gathered x10 x11 (times (val_main_v84 (F := Ideal) x0 x1 x4 x5 x10 x11) x2) := rfl

theorem norm2_eq : val_main_v118 (F := Ideal) x0 x1 x2 x4 x5 x6 x7 x10 x11
    = normalized (val_main_v98 (F := Ideal) x0 x1 x2 x4 x5 x10 x11) x6 x7 := rfl

theorem conv3_eq : val_main_v132 (F := Ideal) x0 x1 x2 x3 x4 x5 x6 x7 x10 x11
    = gathered x10 x11 (times (val_main_v118 (F := Ideal) x0 x1 x2 x4 x5 x6 x7 x10 x11) x3) := rfl

theorem norm3_eq : val_main_v152 (F := Ideal) x0 x1 x2 x3 x4 x5 x6 x7 x8 x9 x10 x11
    = normalized (val_main_v132 (F := Ideal) x0 x1 x2 x3 x4 x5 x6 x7 x10 x11) x8 x9 := rfl

theorem layer1_nodes (R : Reads I x0 x1 x2 x3 x4 x5 x6 x7 x8 x9 x10 x11) : IsNodes (val_main_v84 (F := Ideal) x0 x1 x4 x5 x10 x11) I.first := by
  rw [norm1_eq, conv1_eq]
  exact normalized_at (convolve_at (graph_of R) (input_nodes R) R.W1) R.g1 R.b1

theorem layer2_nodes (R : Reads I x0 x1 x2 x3 x4 x5 x6 x7 x8 x9 x10 x11) : IsNodes (val_main_v118 (F := Ideal) x0 x1 x2 x4 x5 x6 x7 x10 x11) I.second := by
  rw [norm2_eq, conv2_eq]
  exact normalized_at (convolve_at (graph_of R) (layer1_nodes R) R.W2) R.g2 R.b2

theorem layer3_nodes (R : Reads I x0 x1 x2 x3 x4 x5 x6 x7 x8 x9 x10 x11) (p : Fin 128) (n : Fin 64) (e : Fin 128) :
    val_main_v152 (F := Ideal) x0 x1 x2 x3 x4 x5 x6 x7 x8 x9 x10 x11 (ix2 (node p n) e) = normalizeExt I.third I.g3 I.b3 p n e := by
  rw [norm3_eq, conv3_eq]
  exact normalized_ext (convolve_at (graph_of R) (layer2_nodes R) R.W3) R.g3 R.b3 p n e

/-- The graph a node lies in, as the pooling reads it. -/
theorem graph_word (p : Fin 128) (n : Fin 64) : val_main_v157 (F := Ideal) (ix2 (node p n) 0) = BitVec.ofNat 32 p.val := by
  have hn := node_val p n
  have hb := n.isLt
  have h : ∀ r : Fin 8192, val_main_v157 (F := Ideal) (ix2 r 0) = BitVec.ofNat 32 (r.val / 64) := fun r => by
    pointwise [val_main_v157, val_main_v155, val_main_v154, val_main_v153]
  rw [h]
  exact congrArg (BitVec.ofNat 32) (by omega)

theorem graph_eq (p q : Fin 128) (n : Fin 64) : (val_main_v157 (F := Ideal) (ix2 (node p n) 0)).toInt = (q.val : Int) ↔ p = q := by
  have hp := p.isLt
  rw [graph_word, StableHlo.Predicate.toInt_ofNat_small _ (by omega), Fin.ext_iff]
  exact Int.ofNat_inj

/-- The sum over the nodes of one graph. -/
theorem sum_graph (q : Fin 128) (f : Fin 8192 → EReal) :
    ∑ k ∈ Finset.univ.filter (fun k : Fin 8192 => (val_main_v157 (F := Ideal) (ix2 k 0)).toInt = (q.val : Int)), f k = ∑ n, f (node q n) := by
  rw [Finset.sum_filter, ← sum_node]
  rw [Finset.sum_eq_single q]
  · exact Finset.sum_congr rfl fun n _ => if_pos ((graph_eq q q n).mpr rfl)
  · exact fun p _ hp => Finset.sum_eq_zero fun n _ => if_neg fun h => hp ((graph_eq p q n).mp h)
  · exact fun h => (h (Finset.mem_univ _)).elim

theorem zero_pool (q e : Fin 128) : val_main_v156 (F := Ideal) (ix2 q e) = (0 : EReal) := by
  pointwise [val_main_v156, val_main_cst_29]

theorem pooled_at (R : Reads I x0 x1 x2 x3 x4 x5 x6 x7 x8 x9 x10 x11) (q e : Fin 128) :
    val_main_v158 (F := Ideal) x0 x1 x2 x3 x4 x5 x6 x7 x8 x9 x10 x11 (ix2 q e) = ∑ n, normalizeExt I.third I.g3 I.b3 q n e := by
  refine (scatter_rows scatter_S128x128_S8192x1_S8192x128_1_0_0_1 rfl rfl rfl rfl _ _ _ _ _).trans ?_
  rw [sum_graph, zero_pool, zero_add, Finset.sum_congr rfl fun n _ => layer3_nodes R q n e]

/-- The reference's result at the place of graph `q`. -/
theorem result_at (R : Reads I x0 x1 x2 x3 x4 x5 x6 x7 x8 x9 x10 x11) (a : Fin 64) (s : Fin 2) (e q : Fin 128) (hq : q.val = 2 * a.val + s.val) :
    val_main_v161 (F := Ideal) x0 x1 x2 x3 x4 x5 x6 x7 x8 x9 x10 x11 (ix3 a s e) = I.output q e := by
  have hi : idx_main_v161 (ix3 a s e) = ix2 q e := by
    have he := e.isLt
    funext b
    match b with
    | ⟨0, _⟩ =>
      refine Fin.ext ?_
      show ((a.val * 2 + s.val) * 128 + e.val) / 128 = q.val
      omega
    | ⟨1, _⟩ =>
      refine Fin.ext ?_
      show ((a.val * 2 + s.val) * 128 + e.val) % 128 = e.val
      omega
  rw [val_main_v161_apply, hi, val_main_v160_apply, pooled_at R]
  have h64 : val_main_v159 (F := Ideal) (ix2 q e) = ((64 : ℝ) : EReal) := by
    pointwise [val_main_v159, val_main_cst_30]
    exact ofBits_channels
  rw [h64]
  show Ideal.div _ _ = _
  rw [Ideal.div_coe (by norm_num)]
  rfl

end Cert.ReferenceIdeal.Body

end
-- ==== Proof.Algebraic.lean ====
/- The kernel's result and the reference's are one array. -/
module

public import proofs.«01_k».proof.Defs
public import proofs.«01_k».proof.Proof.Ideal.Value
public import proofs.«01_k».proof.Proof.Pre.Read
public import proofs.«01_k».proof.Proof.Reference.Value
public import proofs.«01_k».proof.Proof.Gen.ReferenceIdeal.Run

@[expose] public section

set_option maxRecDepth 16384

noncomputable section

namespace Cert.Proof

open Idealize.ShloMosaic Idealize.ShloMosaic.TcCoe Cert.Network

/-- Under the precondition a device's arguments hold some inputs. -/
theorem holds (m : (ℓ : Loc Cert.KernelIdeal.nD Cert.KernelIdeal.τ Cert.KernelIdeal.sig) → Buf (Elt Ideal) ℓ) (h : Cert.Pre_KernelIdeal_full_graph m)
    (c : Dev Cert.KernelIdeal.nD) : ∃ I : Inputs, Cert.KernelIdeal.Body.Holds m c I := by
  obtain ⟨h0, h1, h2, h3, h4, h5, h6, h7, h8, h9, h10, h11⟩ := h c
  obtain ⟨wd, wo, hw⟩ := exists_weigh (m ((c : Thread Cert.KernelIdeal.nD Cert.KernelIdeal.τ).loc Cert.KernelIdeal.main_arg11) (ix1 0))
    (m ((c : Thread Cert.KernelIdeal.nD Cert.KernelIdeal.τ).loc Cert.KernelIdeal.main_arg11) (ix1 1))
  exact ⟨_, Cert.Pre_full_graph.reads ⟨h0, h1, h2, h3, h4, h5, h6, h7, h8, h9, h10, h11⟩ hw⟩

/-- The reference's result array is the kernel's. -/
theorem same (m : (ℓ : Loc Cert.KernelIdeal.nD Cert.KernelIdeal.τ Cert.KernelIdeal.sig) → Buf (Elt Ideal) ℓ) (c : Dev Cert.KernelIdeal.nD)
    {I : Inputs} (H : Cert.KernelIdeal.Body.Holds m c I)
    {x0 : Vec Ideal (⟨3, ![128, 64, 128]⟩ : Shape) .f32}
    {x1 x2 x3 : Vec Ideal (⟨2, ![128, 128]⟩ : Shape) .f32} {x4 x5 x6 x7 x8 x9 : Vec Ideal (⟨1, ![128]⟩ : Shape) .f32}
    {x10 : Vec Ideal (⟨2, ![2, 4096]⟩ : Shape) .i32} {x11 : Vec Ideal (⟨1, ![4096]⟩ : Shape) .f32}
    (R : Reads I x0 x1 x2 x3 x4 x5 x6 x7 x8 x9 x10 x11) :
    Cert.ReferenceIdeal.Read.val_main_v161 (F := Ideal) x0 x1 x2 x3 x4 x5 x6 x7 x8 x9 x10 x11
      = Cert.KernelIdeal.Body.result m c Cert.KernelIdeal.Body.lastPoint := by
  funext i
  rw [eq_ix3 i]
  refine (Cert.ReferenceIdeal.Body.result_at R (i 0) (i 1) (i 2) (Cert.KernelIdeal.Body.pair (i 0) (i 1)) (Cert.KernelIdeal.Body.pair_val _ _)).trans ?_
  exact (Cert.KernelIdeal.Body.result_apply H (i 0) (i 1) (i 2)).symm

/-- Equal arguments hold the same inputs. -/
theorem reads_of_eq {I : Inputs} {x0 y0 : Vec Ideal (⟨3, ![128, 64, 128]⟩ : Shape) .f32}
    {x1 x2 x3 y1 y2 y3 : Vec Ideal (⟨2, ![128, 128]⟩ : Shape) .f32} {x4 x5 x6 x7 x8 x9 y4 y5 y6 y7 y8 y9 : Vec Ideal (⟨1, ![128]⟩ : Shape) .f32}
    {x10 y10 : Vec Ideal (⟨2, ![2, 4096]⟩ : Shape) .i32} {x11 y11 : Vec Ideal (⟨1, ![4096]⟩ : Shape) .f32}
    (H : Reads I x0 x1 x2 x3 x4 x5 x6 x7 x8 x9 x10 x11)
    (e0 : y0 = x0) (e1 : y1 = x1) (e2 : y2 = x2) (e3 : y3 = x3) (e4 : y4 = x4) (e5 : y5 = x5) (e6 : y6 = x6) (e7 : y7 = x7)
    (e8 : y8 = x8) (e9 : y9 = x9) (e10 : y10 = x10) (e11 : y11 = x11) :
    Reads I y0 y1 y2 y3 y4 y5 y6 y7 y8 y9 y10 y11 := by
  subst e0 e1 e2 e3 e4 e5 e6 e7 e8 e9 e10 e11
  exact H

/-- The kernel computes the reference's result. -/
theorem algebraic : Cert.algebraic_KernelIdeal_ReferenceIdeal_pre_full_graph := by
  intro m g m' g' hpre hargs
  refine ⟨fun c => Cert.KernelIdeal.Body.result m c Cert.KernelIdeal.Body.lastPoint, Cert.KernelIdeal.Body.value m g, ?_⟩
  refine (θ_run _ _ _).mono (fun r h c => ?_) (Cert.ReferenceIdeal.Value.run m' g')
  obtain ⟨I, H⟩ := holds m hpre c
  obtain ⟨a0, a1, a2, a3, a4, a5, a6, a7, a8, a9, a10, a11⟩ := hargs c
  have e := (h c).1.trans (Cert.ReferenceIdeal.Read.val_main_v161_eq (F := Ideal) (StableHlo.launchContents m' c))
  exact ⟨e.trans (same m c H (reads_of_eq H a0 a1 a2 a3 a4 a5 a6 a7 a8 a9 a10 a11)), (h c).2⟩

end Cert.Proof

end
-- ==== Proof.lean ====
/- The certificate: the three frames, the named constant, and the equality of the kernel's result with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Rounded.Result
public import proofs.«01_k».proof.Proof.Ideal.Result
public import proofs.«01_k».proof.Proof.Reference.Frame
public import proofs.«01_k».proof.Proof.Pre.Facts
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The rewritten program names 1/63, and the constant the kernel carries is that number rounded. -/
theorem preserves : preserves_Kernel_KernelIdeal :=
  IdealRules.named_const.statement Cert.KernelIdeal.κ "inv_offdiag" .f32 0x3C820821#32 ((1 / 63 : ℝ) : EReal) rfl

/-- Everything claimed. -/
theorem claim : Cert.Claim := ⟨Cert.Kernel.Gen.facts, Cert.KernelIdeal.Gen.facts, Cert.ReferenceIdeal.Gen.facts, Cert.Pre_full_graph.facts,
  fun m g _ => Cert.Kernel.Body.frame m g,
  fun m g _ => Cert.KernelIdeal.Body.frame m g,
  fun m g _ => Cert.KernelIdeal.Body.frame m g,
  fun m g _ => Cert.ReferenceIdeal.Frame.frame m g,
  fun m g _ => Cert.ReferenceIdeal.Frame.frame m g,
  preserves,
  algebraic⟩

end Cert.Proof

end
